-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2048, 8, 128]⟩ ⟨3, ![32768, 8, 128]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2048, 8, 128]⟩ ⟨3, ![32768, 8, 128]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x1024 : Shape := ⟨2, ![1024, 1024]⟩
abbrev S2048x8x128 : Shape := ⟨3, ![2048, 8, 128]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x8x128 : S_.BroadcastsInDim S2048x8x128 (![] : Fin 0 → Fin S2048x8x128.rank)
  reducesTo_S2048x8x128_S_d0_1_2 : S2048x8x128.ReducesTo [0, 1, 2] S_

variable [Facts]

def fn {F : FTy → Type} [FloatOps F] (main_arg0 : FVec F S512x1024 .f32) (main_arg1 : FVec F S1024x1024 .f32) (main_arg2 : FVec F S2048x8x128 .f32) (main_arg3 : FVec F S2048x8x128 .f32) (main_arg4 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x8x128 .f32 := Host.absf main_arg2
  let main_cst_2 : FVec F S_ .f32 := constant S_ .f32 0x7F800000#32
  let main_v10 : FVec F S2048x8x128 .f32 := broadcastInDim S2048x8x128 ![] bcast_S_S2048x8x128 main_cst_2
  let main_v11 : IVec S2048x8x128 1 := cmpf .olt main_v9 main_v10
  let main_c_3 : IVec S_ 1 := constantI S_ 1 1#1
  let main_v12 : IVec S_ 1 := (fun x v => Host.reduce IntOp.andi x v reducesTo_S2048x8x128_S_d0_1_2 h_S_) main_v11 main_c_3
  let main_v13 : IVec S_ 1 := andi main_v8 main_v12
  main_v13
-- ==== Pre_finite_ReferenceIdeal.lean ====
abbrev S512x1024 : Shape := ⟨2, ![512, 1024]⟩
abbrev S1024x1024 : Shape := ⟨2, ![1024, 1024]⟩
abbrev S32768x8x128 : Shape := ⟨3, ![32768, 8, 128]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32768x8x128 : S_.BroadcastsInDim S32768x8x128 (![] : Fin 0 → Fin S32768x8x128.rank)
  reducesTo_S32768x8x128_S_d0_1_2 : S32768x8x128.ReducesTo [0, 1, 2] S_

variable [Facts]

def fn {F : FTy → Type} [FloatOps F] (main_arg0 : FVec F S512x1024 .f32) (main_arg1 : FVec F S1024x1024 .f32) (main_arg2 : FVec F S32768x8x128 .f32) (main_arg3 : FVec F S32768x8x128 .f32) (main_arg4 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S32768x8x128 .f32 := Host.absf main_arg2
  let main_cst_2 : FVec F S_ .f32 := constant S_ .f32 0x7F800000#32
  let main_v10 : FVec F S32768x8x128 .f32 := broadcastInDim S32768x8x128 ![] bcast_S_S32768x8x128 main_cst_2
  let main_v11 : IVec S32768x8x128 1 := cmpf .olt main_v9 main_v10
  let main_c_3 : IVec S_ 1 := constantI S_ 1 1#1
  let main_v12 : IVec S_ 1 := (fun x v => Host.reduce IntOp.andi x v reducesTo_S32768x8x128_S_d0_1_2 h_S_) main_v11 main_c_3
  let main_v13 : IVec S_ 1 := andi main_v8 main_v12
  main_v13
-- ==== Kernel.lean ====
abbrev S512x1024 : Shape := ⟨2, ![512, 1024]⟩
abbrev S1024x1024 : Shape := ⟨2, ![1024, 1024]⟩
abbrev S2048x8x128 : Shape := ⟨3, ![2048, 8, 128]⟩
abbrev S512x8 : Shape := ⟨2, ![512, 8]⟩
abbrev S16x32x1024 : Shape := ⟨3, ![16, 32, 1024]⟩
abbrev S16x32x8 : Shape := ⟨3, ![16, 32, 8]⟩
abbrev S32x1024 : Shape := ⟨2, ![32, 1024]⟩
abbrev S2048x128 : Shape := ⟨2, ![2048, 128]⟩
abbrev S2 : Shape := ⟨1, ![2]⟩
abbrev S16 : Shape := ⟨1, ![16]⟩
abbrev S_ : Shape := ⟨0, ![]⟩
abbrev S1 : Shape := ⟨1, ![1]⟩
abbrev S2048x1x128 : Shape := ⟨3, ![2048, 1, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x32x1024 : Shape := ⟨3, ![1, 32, 1024]⟩
abbrev S1x32x8 : Shape := ⟨3, ![1, 32, 8]⟩
abbrev S32x8 : Shape := ⟨2, ![32, 8]⟩
abbrev S32x128 : Shape := ⟨2, ![32, 128]⟩
abbrev S32x1 : Shape := ⟨2, ![32, 1]⟩

abbrev nBuf : Space → Nat
  | .hbm => 6
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S2048x8x128, .f32⟩
  | .hbm, ⟨3, _⟩ => ⟨S2048x8x128, .f32⟩
  | .hbm, ⟨4, _⟩ => ⟨S1024x1024, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .f32⟩
  | .local _ .vmem, ⟨6, _⟩ => ⟨S512x8, .f32⟩
  | .local _ .vmem, ⟨7, _⟩ => ⟨S16x32x1024, .f32⟩
  | .local _ .vmem, ⟨8, _⟩ => ⟨S16x32x8, .f32⟩
  | .local _ .vmem, ⟨9, _⟩ => ⟨S16x32x1024, .f32⟩
  | .local _ .vmem, ⟨10, _⟩ => ⟨S32x1024, .f32⟩
  | .local _ .vmem, ⟨11, _⟩ => ⟨S2048x128, .f32⟩
  | .local _ .vmem, ⟨12, _⟩ => ⟨S2048x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_451 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v629 : BitVec 32 := Scalar.addi v2 c1_i32_451
  let c16_i32_452 : BitVec 32 := 16#32
  let v630 : BitVec 32 := Scalar.remsi v629 c16_i32_452
  let c32_i32 : BitVec 32 := 32#32
  let v631 : BitVec 32 := Scalar.muli v630 c32_i32
  let c0_i32_461 : BitVec 32 := 0#32
  ![v631.toNat, 0]
def k0_dev16 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_451 : BitVec 32 := 1#32
  let v629 : BitVec 32 := Scalar.addi v2 c1_i32_451
  let c16_i32_452 : BitVec 32 := 16#32
  let v630 : BitVec 32 := Scalar.remsi v629 c16_i32_452
  let c1_i32_457 : BitVec 32 := 1#32
  let v633 : BitVec 32 := Scalar.muli v630 c1_i32_457
  let v634 : BitVec 32 := Scalar.addi c0_i32_458 v633
  v634.toNat
def k0_off2 (d0 : Dev nD) (c1_i32_451 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v629 : BitVec 32 := Scalar.addi v2 c1_i32_451
  let c16_i32_452 : BitVec 32 := 16#32
  let v630 : BitVec 32 := Scalar.remsi v629 c16_i32_452
  let c32_i32_453 : BitVec 32 := 32#32
  let v632 : BitVec 32 := Scalar.muli v630 c32_i32_453
  let c0_i32_469 : BitVec 32 := 0#32
  ![v632.toNat, 0]
def k0_dev17 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_451 : BitVec 32 := 1#32
  let v629 : BitVec 32 := Scalar.addi v2 c1_i32_451
  let c16_i32_452 : BitVec 32 := 16#32
  let v630 : BitVec 32 := Scalar.remsi v629 c16_i32_452
  let c1_i32_465 : BitVec 32 := 1#32
  let v642 : BitVec 32 := Scalar.muli v630 c1_i32_465
  let v643 : BitVec 32 := Scalar.addi c0_i32_466 v642
  v643.toNat
def k0_dev18 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_470 : BitVec 32 := 2#32
  let v651 : BitVec 32 := Scalar.addi v2 c2_i32_470
  let c16_i32_471 : BitVec 32 := 16#32
  let v652 : BitVec 32 := Scalar.remsi v651 c16_i32_471
  let c1_i32_477 : BitVec 32 := 1#32
  let v655 : BitVec 32 := Scalar.muli v652 c1_i32_477
  let v656 : BitVec 32 := Scalar.addi c0_i32_478 v655
  v656.toNat
def k0_dev19 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_470 : BitVec 32 := 2#32
  let v651 : BitVec 32 := Scalar.addi v2 c2_i32_470
  let c16_i32_471 : BitVec 32 := 16#32
  let v652 : BitVec 32 := Scalar.remsi v651 c16_i32_471
  let c1_i32_485 : BitVec 32 := 1#32
  let v664 : BitVec 32 := Scalar.muli v652 c1_i32_485
  let v665 : BitVec 32 := Scalar.addi c0_i32_486 v664
  v665.toNat
def k0_dev20 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_490 : BitVec 32 := 3#32
  let v673 : BitVec 32 := Scalar.addi v2 c3_i32_490
  let c16_i32_491 : BitVec 32 := 16#32
  let v674 : BitVec 32 := Scalar.remsi v673 c16_i32_491
  let c1_i32_497 : BitVec 32 := 1#32
  let v677 : BitVec 32 := Scalar.muli v674 c1_i32_497
  let v678 : BitVec 32 := Scalar.addi c0_i32_498 v677
  v678.toNat
def k0_dev21 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_490 : BitVec 32 := 3#32
  let v673 : BitVec 32 := Scalar.addi v2 c3_i32_490
  let c16_i32_491 : BitVec 32 := 16#32
  let v674 : BitVec 32 := Scalar.remsi v673 c16_i32_491
  let c1_i32_505 : BitVec 32 := 1#32
  let v686 : BitVec 32 := Scalar.muli v674 c1_i32_505
  let v687 : BitVec 32 := Scalar.addi c0_i32_506 v686
  v687.toNat
def k0_dev22 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_510 : BitVec 32 := 4#32
  let v695 : BitVec 32 := Scalar.addi v2 c4_i32_510
  let c16_i32_511 : BitVec 32 := 16#32
  let v696 : BitVec 32 := Scalar.remsi v695 c16_i32_511
  let c1_i32_517 : BitVec 32 := 1#32
  let v699 : BitVec 32 := Scalar.muli v696 c1_i32_517
  let v700 : BitVec 32 := Scalar.addi c0_i32_518 v699
  v700.toNat
def k0_dev23 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_510 : BitVec 32 := 4#32
  let v695 : BitVec 32 := Scalar.addi v2 c4_i32_510
  let c16_i32_511 : BitVec 32 := 16#32
  let v696 : BitVec 32 := Scalar.remsi v695 c16_i32_511
  let c1_i32_525 : BitVec 32 := 1#32
  let v708 : BitVec 32 := Scalar.muli v696 c1_i32_525
  let v709 : BitVec 32 := Scalar.addi c0_i32_526 v708
  v709.toNat
def k0_dev24 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_530 : BitVec 32 := 5#32
  let v717 : BitVec 32 := Scalar.addi v2 c5_i32_530
  let c16_i32_531 : BitVec 32 := 16#32
  let v718 : BitVec 32 := Scalar.remsi v717 c16_i32_531
  let c1_i32_537 : BitVec 32 := 1#32
  let v721 : BitVec 32 := Scalar.muli v718 c1_i32_537
  let v722 : BitVec 32 := Scalar.addi c0_i32_538 v721
  v722.toNat
def k0_dev25 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_530 : BitVec 32 := 5#32
  let v717 : BitVec 32 := Scalar.addi v2 c5_i32_530
  let c16_i32_531 : BitVec 32 := 16#32
  let v718 : BitVec 32 := Scalar.remsi v717 c16_i32_531
  let c1_i32_545 : BitVec 32 := 1#32
  let v730 : BitVec 32 := Scalar.muli v718 c1_i32_545
  let v731 : BitVec 32 := Scalar.addi c0_i32_546 v730
  v731.toNat
def k0_dev26 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_550 : BitVec 32 := 6#32
  let v739 : BitVec 32 := Scalar.addi v2 c6_i32_550
  let c16_i32_551 : BitVec 32 := 16#32
  let v740 : BitVec 32 := Scalar.remsi v739 c16_i32_551
  let c1_i32_557 : BitVec 32 := 1#32
  let v743 : BitVec 32 := Scalar.muli v740 c1_i32_557
  let v744 : BitVec 32 := Scalar.addi c0_i32_558 v743
  v744.toNat
def k0_dev27 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_550 : BitVec 32 := 6#32
  let v739 : BitVec 32 := Scalar.addi v2 c6_i32_550
  let c16_i32_551 : BitVec 32 := 16#32
  let v740 : BitVec 32 := Scalar.remsi v739 c16_i32_551
  let c1_i32_565 : BitVec 32 := 1#32
  let v752 : BitVec 32 := Scalar.muli v740 c1_i32_565
  let v753 : BitVec 32 := Scalar.addi c0_i32_566 v752
  v753.toNat
def k0_dev28 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_570 : BitVec 32 := 7#32
  let v761 : BitVec 32 := Scalar.addi v2 c7_i32_570
  let c16_i32_571 : BitVec 32 := 16#32
  let v762 : BitVec 32 := Scalar.remsi v761 c16_i32_571
  let c1_i32_577 : BitVec 32 := 1#32
  let v765 : BitVec 32 := Scalar.muli v762 c1_i32_577
  let v766 : BitVec 32 := Scalar.addi c0_i32_578 v765
  v766.toNat
def k0_dev29 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_570 : BitVec 32 := 7#32
  let v761 : BitVec 32 := Scalar.addi v2 c7_i32_570
  let c16_i32_571 : BitVec 32 := 16#32
  let v762 : BitVec 32 := Scalar.remsi v761 c16_i32_571
  let c1_i32_585 : BitVec 32 := 1#32
  let v774 : BitVec 32 := Scalar.muli v762 c1_i32_585
  let v775 : BitVec 32 := Scalar.addi c0_i32_586 v774
  v775.toNat
def k0_dev30 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_590 : BitVec 32 := 8#32
  let v783 : BitVec 32 := Scalar.addi v2 c8_i32_590
  let c16_i32_591 : BitVec 32 := 16#32
  let v784 : BitVec 32 := Scalar.remsi v783 c16_i32_591
  let c1_i32_597 : BitVec 32 := 1#32
  let v787 : BitVec 32 := Scalar.muli v784 c1_i32_597
  let v788 : BitVec 32 := Scalar.addi c0_i32_598 v787
  v788.toNat
def k0_dev31 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_590 : BitVec 32 := 8#32
  let v783 : BitVec 32 := Scalar.addi v2 c8_i32_590
  let c16_i32_591 : BitVec 32 := 16#32
  let v784 : BitVec 32 := Scalar.remsi v783 c16_i32_591
  let c1_i32_605 : BitVec 32 := 1#32
  let v796 : BitVec 32 := Scalar.muli v784 c1_i32_605
  let v797 : BitVec 32 := Scalar.addi c0_i32_606 v796
  v797.toNat
def k0_dev32 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_610 : BitVec 32 := 9#32
  let v805 : BitVec 32 := Scalar.addi v2 c9_i32_610
  let c16_i32_611 : BitVec 32 := 16#32
  let v806 : BitVec 32 := Scalar.remsi v805 c16_i32_611
  let c1_i32_617 : BitVec 32 := 1#32
  let v809 : BitVec 32 := Scalar.muli v806 c1_i32_617
  let v810 : BitVec 32 := Scalar.addi c0_i32_618 v809
  v810.toNat
def k0_dev33 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_610 : BitVec 32 := 9#32
  let v805 : BitVec 32 := Scalar.addi v2 c9_i32_610
  let c16_i32_611 : BitVec 32 := 16#32
  let v806 : BitVec 32 := Scalar.remsi v805 c16_i32_611
  let c1_i32_625 : BitVec 32 := 1#32
  let v818 : BitVec 32 := Scalar.muli v806 c1_i32_625
  let v819 : BitVec 32 := Scalar.addi c0_i32_626 v818
  v819.toNat
def k0_dev34 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_630 : BitVec 32 := 10#32
  let v827 : BitVec 32 := Scalar.addi v2 c10_i32_630
  let c16_i32_631 : BitVec 32 := 16#32
  let v828 : BitVec 32 := Scalar.remsi v827 c16_i32_631
  let c1_i32_637 : BitVec 32 := 1#32
  let v831 : BitVec 32 := Scalar.muli v828 c1_i32_637
  let v832 : BitVec 32 := Scalar.addi c0_i32_638 v831
  v832.toNat
def k0_dev35 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_630 : BitVec 32 := 10#32
  let v827 : BitVec 32 := Scalar.addi v2 c10_i32_630
  let c16_i32_631 : BitVec 32 := 16#32
  let v828 : BitVec 32 := Scalar.remsi v827 c16_i32_631
  let c1_i32_645 : BitVec 32 := 1#32
  let v840 : BitVec 32 := Scalar.muli v828 c1_i32_645
  let v841 : BitVec 32 := Scalar.addi c0_i32_646 v840
  v841.toNat
def k0_dev36 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_650 : BitVec 32 := 11#32
  let v849 : BitVec 32 := Scalar.addi v2 c11_i32_650
  let c16_i32_651 : BitVec 32 := 16#32
  let v850 : BitVec 32 := Scalar.remsi v849 c16_i32_651
  let c1_i32_657 : BitVec 32 := 1#32
  let v853 : BitVec 32 := Scalar.muli v850 c1_i32_657
  let v854 : BitVec 32 := Scalar.addi c0_i32_658 v853
  v854.toNat
def k0_dev37 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_650 : BitVec 32 := 11#32
  let v849 : BitVec 32 := Scalar.addi v2 c11_i32_650
  let c16_i32_651 : BitVec 32 := 16#32
  let v850 : BitVec 32 := Scalar.remsi v849 c16_i32_651
  let c1_i32_665 : BitVec 32 := 1#32
  let v862 : BitVec 32 := Scalar.muli v850 c1_i32_665
  let v863 : BitVec 32 := Scalar.addi c0_i32_666 v862
  v863.toNat
def k0_dev38 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_670 : BitVec 32 := 12#32
  let v871 : BitVec 32 := Scalar.addi v2 c12_i32_670
  let c16_i32_671 : BitVec 32 := 16#32
  let v872 : BitVec 32 := Scalar.remsi v871 c16_i32_671
  let c1_i32_677 : BitVec 32 := 1#32
  let v875 : BitVec 32 := Scalar.muli v872 c1_i32_677
  let v876 : BitVec 32 := Scalar.addi c0_i32_678 v875
  v876.toNat
def k0_dev39 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_670 : BitVec 32 := 12#32
  let v871 : BitVec 32 := Scalar.addi v2 c12_i32_670
  let c16_i32_671 : BitVec 32 := 16#32
  let v872 : BitVec 32 := Scalar.remsi v871 c16_i32_671
  let c1_i32_685 : BitVec 32 := 1#32
  let v884 : BitVec 32 := Scalar.muli v872 c1_i32_685
  let v885 : BitVec 32 := Scalar.addi c0_i32_686 v884
  v885.toNat
def k0_dev40 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_690 : BitVec 32 := 13#32
  let v893 : BitVec 32 := Scalar.addi v2 c13_i32_690
  let c16_i32_691 : BitVec 32 := 16#32
  let v894 : BitVec 32 := Scalar.remsi v893 c16_i32_691
  let c1_i32_697 : BitVec 32 := 1#32
  let v897 : BitVec 32 := Scalar.muli v894 c1_i32_697
  let v898 : BitVec 32 := Scalar.addi c0_i32_698 v897
  v898.toNat
def k0_dev41 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_690 : BitVec 32 := 13#32
  let v893 : BitVec 32 := Scalar.addi v2 c13_i32_690
  let c16_i32_691 : BitVec 32 := 16#32
  let v894 : BitVec 32 := Scalar.remsi v893 c16_i32_691
  let c1_i32_705 : BitVec 32 := 1#32
  let v906 : BitVec 32 := Scalar.muli v894 c1_i32_705
  let v907 : BitVec 32 := Scalar.addi c0_i32_706 v906
  v907.toNat
def k0_dev42 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_710 : BitVec 32 := 14#32
  let v915 : BitVec 32 := Scalar.addi v2 c14_i32_710
  let c16_i32_711 : BitVec 32 := 16#32
  let v916 : BitVec 32 := Scalar.remsi v915 c16_i32_711
  let c1_i32_717 : BitVec 32 := 1#32
  let v919 : BitVec 32 := Scalar.muli v916 c1_i32_717
  let v920 : BitVec 32 := Scalar.addi c0_i32_718 v919
  v920.toNat
def k0_dev43 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_710 : BitVec 32 := 14#32
  let v915 : BitVec 32 := Scalar.addi v2 c14_i32_710
  let c16_i32_711 : BitVec 32 := 16#32
  let v916 : BitVec 32 := Scalar.remsi v915 c16_i32_711
  let c1_i32_725 : BitVec 32 := 1#32
  let v928 : BitVec 32 := Scalar.muli v916 c1_i32_725
  let v929 : BitVec 32 := Scalar.addi c0_i32_726 v928
  v929.toNat
def k0_dev44 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_730 : BitVec 32 := 15#32
  let v937 : BitVec 32 := Scalar.addi v2 c15_i32_730
  let c16_i32_731 : BitVec 32 := 16#32
  let v938 : BitVec 32 := Scalar.remsi v937 c16_i32_731
  let c1_i32_737 : BitVec 32 := 1#32
  let v941 : BitVec 32 := Scalar.muli v938 c1_i32_737
  let v942 : BitVec 32 := Scalar.addi c0_i32_738 v941
  v942.toNat
def k0_dev45 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_730 : BitVec 32 := 15#32
  let v937 : BitVec 32 := Scalar.addi v2 c15_i32_730
  let c16_i32_731 : BitVec 32 := 16#32
  let v938 : BitVec 32 := Scalar.remsi v937 c16_i32_731
  let c1_i32_745 : BitVec 32 := 1#32
  let v950 : BitVec 32 := Scalar.muli v938 c1_i32_745
  let v951 : BitVec 32 := Scalar.addi c0_i32_746 v950
  v951.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_750 : BitVec 32 := 32#32
  let v959 : BitVec 32 := Scalar.muli v2 c32_i32_750
  let v960 : Index := Scalar.indexCast v959
  let c0_751 : Index := 0#32
  ![v960.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_752 : BitVec 32 := 32#32
  let v962 : BitVec 32 := Scalar.muli v2 c32_i32_752
  let v963 : Index := Scalar.indexCast v962
  let c0_753 : Index := 0#32
  ![v963.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_754 : BitVec 32 := 32#32
  let v965 : BitVec 32 := Scalar.muli v2 c32_i32_754
  let c0_i32_772 : BitVec 32 := 0#32
  ![v965.toNat, 0]
def k0_dev46 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1164 : BitVec 32 := 1#32
  let v1366 : BitVec 32 := Scalar.addi v2 c1_i32_1164
  let c16_i32_1165 : BitVec 32 := 16#32
  let v1367 : BitVec 32 := Scalar.remsi v1366 c16_i32_1165
  let c1_i32_1169 : BitVec 32 := 1#32
  let v1368 : BitVec 32 := Scalar.muli v1367 c1_i32_1169
  let v1369 : BitVec 32 := Scalar.addi c0_i32_1170 v1368
  v1369.toNat
def k0_dev47 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1173 : BitVec 32 := 2#32
  let v1376 : BitVec 32 := Scalar.addi v2 c2_i32_1173
  let c16_i32_1174 : BitVec 32 := 16#32
  let v1377 : BitVec 32 := Scalar.remsi v1376 c16_i32_1174
  let c1_i32_1178 : BitVec 32 := 1#32
  let v1378 : BitVec 32 := Scalar.muli v1377 c1_i32_1178
  let v1379 : BitVec 32 := Scalar.addi c0_i32_1179 v1378
  v1379.toNat
def k0_dev48 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1182 : BitVec 32 := 3#32
  let v1386 : BitVec 32 := Scalar.addi v2 c3_i32_1182
  let c16_i32_1183 : BitVec 32 := 16#32
  let v1387 : BitVec 32 := Scalar.remsi v1386 c16_i32_1183
  let c1_i32_1187 : BitVec 32 := 1#32
  let v1388 : BitVec 32 := Scalar.muli v1387 c1_i32_1187
  let v1389 : BitVec 32 := Scalar.addi c0_i32_1188 v1388
  v1389.toNat
def k0_dev49 (d0 : Dev nD) : Nat :=
  let c0_i32_1197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1191 : BitVec 32 := 4#32
  let v1396 : BitVec 32 := Scalar.addi v2 c4_i32_1191
  let c16_i32_1192 : BitVec 32 := 16#32
  let v1397 : BitVec 32 := Scalar.remsi v1396 c16_i32_1192
  let c1_i32_1196 : BitVec 32 := 1#32
  let v1398 : BitVec 32 := Scalar.muli v1397 c1_i32_1196
  let v1399 : BitVec 32 := Scalar.addi c0_i32_1197 v1398
  v1399.toNat
def k0_dev50 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1200 : BitVec 32 := 5#32
  let v1406 : BitVec 32 := Scalar.addi v2 c5_i32_1200
  let c16_i32_1201 : BitVec 32 := 16#32
  let v1407 : BitVec 32 := Scalar.remsi v1406 c16_i32_1201
  let c1_i32_1205 : BitVec 32 := 1#32
  let v1408 : BitVec 32 := Scalar.muli v1407 c1_i32_1205
  let v1409 : BitVec 32 := Scalar.addi c0_i32_1206 v1408
  v1409.toNat
def k0_dev51 (d0 : Dev nD) : Nat :=
  let c0_i32_1215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1209 : BitVec 32 := 6#32
  let v1416 : BitVec 32 := Scalar.addi v2 c6_i32_1209
  let c16_i32_1210 : BitVec 32 := 16#32
  let v1417 : BitVec 32 := Scalar.remsi v1416 c16_i32_1210
  let c1_i32_1214 : BitVec 32 := 1#32
  let v1418 : BitVec 32 := Scalar.muli v1417 c1_i32_1214
  let v1419 : BitVec 32 := Scalar.addi c0_i32_1215 v1418
  v1419.toNat
def k0_dev52 (d0 : Dev nD) : Nat :=
  let c0_i32_1224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1218 : BitVec 32 := 7#32
  let v1426 : BitVec 32 := Scalar.addi v2 c7_i32_1218
  let c16_i32_1219 : BitVec 32 := 16#32
  let v1427 : BitVec 32 := Scalar.remsi v1426 c16_i32_1219
  let c1_i32_1223 : BitVec 32 := 1#32
  let v1428 : BitVec 32 := Scalar.muli v1427 c1_i32_1223
  let v1429 : BitVec 32 := Scalar.addi c0_i32_1224 v1428
  v1429.toNat
def k0_dev53 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1227 : BitVec 32 := 8#32
  let v1436 : BitVec 32 := Scalar.addi v2 c8_i32_1227
  let c16_i32_1228 : BitVec 32 := 16#32
  let v1437 : BitVec 32 := Scalar.remsi v1436 c16_i32_1228
  let c1_i32_1232 : BitVec 32 := 1#32
  let v1438 : BitVec 32 := Scalar.muli v1437 c1_i32_1232
  let v1439 : BitVec 32 := Scalar.addi c0_i32_1233 v1438
  v1439.toNat
def k0_dev54 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1236 : BitVec 32 := 9#32
  let v1446 : BitVec 32 := Scalar.addi v2 c9_i32_1236
  let c16_i32_1237 : BitVec 32 := 16#32
  let v1447 : BitVec 32 := Scalar.remsi v1446 c16_i32_1237
  let c1_i32_1241 : BitVec 32 := 1#32
  let v1448 : BitVec 32 := Scalar.muli v1447 c1_i32_1241
  let v1449 : BitVec 32 := Scalar.addi c0_i32_1242 v1448
  v1449.toNat
def k0_dev55 (d0 : Dev nD) : Nat :=
  let c0_i32_1251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1245 : BitVec 32 := 10#32
  let v1456 : BitVec 32 := Scalar.addi v2 c10_i32_1245
  let c16_i32_1246 : BitVec 32 := 16#32
  let v1457 : BitVec 32 := Scalar.remsi v1456 c16_i32_1246
  let c1_i32_1250 : BitVec 32 := 1#32
  let v1458 : BitVec 32 := Scalar.muli v1457 c1_i32_1250
  let v1459 : BitVec 32 := Scalar.addi c0_i32_1251 v1458
  v1459.toNat
def k0_dev56 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1254 : BitVec 32 := 11#32
  let v1466 : BitVec 32 := Scalar.addi v2 c11_i32_1254
  let c16_i32_1255 : BitVec 32 := 16#32
  let v1467 : BitVec 32 := Scalar.remsi v1466 c16_i32_1255
  let c1_i32_1259 : BitVec 32 := 1#32
  let v1468 : BitVec 32 := Scalar.muli v1467 c1_i32_1259
  let v1469 : BitVec 32 := Scalar.addi c0_i32_1260 v1468
  v1469.toNat
def k0_dev57 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1263 : BitVec 32 := 12#32
  let v1476 : BitVec 32 := Scalar.addi v2 c12_i32_1263
  let c16_i32_1264 : BitVec 32 := 16#32
  let v1477 : BitVec 32 := Scalar.remsi v1476 c16_i32_1264
  let c1_i32_1268 : BitVec 32 := 1#32
  let v1478 : BitVec 32 := Scalar.muli v1477 c1_i32_1268
  let v1479 : BitVec 32 := Scalar.addi c0_i32_1269 v1478
  v1479.toNat
def k0_dev58 (d0 : Dev nD) : Nat :=
  let c0_i32_1278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1272 : BitVec 32 := 13#32
  let v1486 : BitVec 32 := Scalar.addi v2 c13_i32_1272
  let c16_i32_1273 : BitVec 32 := 16#32
  let v1487 : BitVec 32 := Scalar.remsi v1486 c16_i32_1273
  let c1_i32_1277 : BitVec 32 := 1#32
  let v1488 : BitVec 32 := Scalar.muli v1487 c1_i32_1277
  let v1489 : BitVec 32 := Scalar.addi c0_i32_1278 v1488
  v1489.toNat
def k0_dev59 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1281 : BitVec 32 := 14#32
  let v1496 : BitVec 32 := Scalar.addi v2 c14_i32_1281
  let c16_i32_1282 : BitVec 32 := 16#32
  let v1497 : BitVec 32 := Scalar.remsi v1496 c16_i32_1282
  let c1_i32_1286 : BitVec 32 := 1#32
  let v1498 : BitVec 32 := Scalar.muli v1497 c1_i32_1286
  let v1499 : BitVec 32 := Scalar.addi c0_i32_1287 v1498
  v1499.toNat
def k0_dev60 (d0 : Dev nD) : Nat :=
  let c0_i32_1296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1290 : BitVec 32 := 15#32
  let v1506 : BitVec 32 := Scalar.addi v2 c15_i32_1290
  let c16_i32_1291 : BitVec 32 := 16#32
  let v1507 : BitVec 32 := Scalar.remsi v1506 c16_i32_1291
  let c1_i32_1295 : BitVec 32 := 1#32
  let v1508 : BitVec 32 := Scalar.muli v1507 c1_i32_1295
  let v1509 : BitVec 32 := Scalar.addi c0_i32_1296 v1508
  v1509.toNat
def k0_off6 (d0 : Dev nD) (c1_i32_1299 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1516 : BitVec 32 := Scalar.subi v2 c1_i32_1299
  let c16_i32_1300 : BitVec 32 := 16#32
  let v1517 : BitVec 32 := Scalar.addi v1516 c16_i32_1300
  let c16_i32_1301 : BitVec 32 := 16#32
  let v1518 : BitVec 32 := Scalar.remsi v1517 c16_i32_1301
  let c32_i32_1315 : BitVec 32 := 32#32
  let v1529 : BitVec 32 := Scalar.muli v1518 c32_i32_1315
  let v1530 : Index := Scalar.indexCast v1529
  let c0_1316 : Index := 0#32
  ![v1530.toNat, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S512x1024 : Shape := ⟨2, ![512, 1024]⟩
abbrev S1024x1024 : Shape := ⟨2, ![1024, 1024]⟩
abbrev S32768x8x128 : Shape := ⟨3, ![32768, 8, 128]⟩
abbrev S512x8x128 : Shape := ⟨3, ![512, 8, 128]⟩
abbrev S8x512x32768 : Shape := ⟨3, ![8, 512, 32768]⟩
abbrev S_ : Shape := ⟨0, ![]⟩
abbrev S8x512 : Shape := ⟨2, ![8, 512]⟩
abbrev S8x512x1 : Shape := ⟨3, ![8, 512, 1]⟩
abbrev S8x128x512 : Shape := ⟨3, ![8, 128, 512]⟩
abbrev S512x8x1 : Shape := ⟨3, ![512, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S32768x8x128, .f32⟩
  | .hbm, ⟨3, _⟩ => ⟨S32768x8x128, .f32⟩
  | .hbm, ⟨4, _⟩ => ⟨S1024x1024, .f32⟩
  | .hbm, ⟨5, _⟩ => ⟨S512x1024, .f32⟩
  | .hbm, ⟨6, _⟩ => ⟨S512x8x128, .f32⟩
  | .hbm, ⟨7, _⟩ => ⟨S8x512x32768, .f32⟩
  | .hbm, ⟨8, _⟩ => ⟨S_, .f32⟩
  | .hbm, ⟨9, _⟩ => ⟨S8x512x32768, .f32⟩
  | .hbm, ⟨10, _⟩ => ⟨S8x512x32768, .f32⟩
  | .hbm, ⟨11, _⟩ => ⟨S_, .f32⟩
  | .hbm, ⟨12, _⟩ => ⟨S8x512, .f32⟩
  | .hbm, ⟨13, _⟩ => ⟨S8x512x1, .f32⟩
  | .hbm, ⟨14, _⟩ => ⟨S8x512x32768, .f32⟩
  | .hbm, ⟨15, _⟩ => ⟨S8x512x32768, .f32⟩
  | .hbm, ⟨16, _⟩ => ⟨S8x512x32768, .f32⟩
  | .hbm, ⟨17, _⟩ => ⟨S_, .f32⟩
  | .hbm, ⟨18, _⟩ => ⟨S8x512, .f32⟩
  | .hbm, ⟨19, _⟩ => ⟨S8x512x1, .f32⟩
  | .hbm, ⟨20, _⟩ => ⟨S8x128x512, .f32⟩
  | .hbm, ⟨21, _⟩ => ⟨S512x8x128, .f32⟩
  | .hbm, ⟨22, _⟩ => ⟨S512x8x1, .f32⟩
  | .hbm, ⟨23, _⟩ => ⟨S512x8x128, .f32⟩
  | .hbm, ⟨24, _⟩ => ⟨S512x8x128, .f32⟩
  | .hbm, ⟨25, _⟩ => ⟨S512x1024, .f32⟩
  | .hbm, ⟨26, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Prog.lean ====
/- The kernel's body written in loops: one description of a head, of a send, of a wait, repeated — and the proof that
   the printed body is it. Every later module reasons about these short descriptions at a symbolic repetition. -/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Body

open Idealize.ShloMosaic Idealize.ShloMosaic.TcCoe Idealize.SL.Sem
open Cert.KernelIdeal Cert.KernelIdeal.Gen

variable {F : FTy → Type} [FloatOps F] [Named F]

/-! ## The buffers -/

abbrev xM : Memref sig .tc .vmem S512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S2048x8x128 .f32 := Memref.whole main_arg2
abbrev vM : Memref sig .tc .hbm S2048x8x128 .f32 := Memref.whole main_arg3
abbrev outM : Memref sig .tc .vmem S512x1024 .f32 := Memref.whole cc0_stg3_0
abbrev qM : Memref sig .tc .vmem S512x1024 .bf16 := Memref.whole cc0_scratch0
abbrev accM : Memref sig .tc .vmem S512x1024 .f32 := Memref.whole cc0_scratch1
abbrev lM : Memref sig .tc .vmem S512x8 .f32 := Memref.whole cc0_scratch2
abbrev rsM : Memref sig .tc .vmem S16x32x1024 .f32 := Memref.whole cc0_scratch3
abbrev rlM : Memref sig .tc .vmem S16x32x8 .f32 := Memref.whole cc0_scratch4
abbrev agM : Memref sig .tc .vmem S16x32x1024 .f32 := Memref.whole cc0_scratch5
abbrev finM : Memref sig .tc .vmem S32x1024 .f32 := Memref.whole cc0_scratch6
abbrev khM : Memref sig .tc .vmem S2048x128 .f32 := Memref.whole cc0_scratch7
abbrev vhM : Memref sig .tc .vmem S2048x128 .f32 := Memref.whole cc0_scratch8

/-! ## The rectangles are in bounds -/

theorem cols_inb (h : Fin 8) : ∀ a, (![0, 128 * h.val] : Fin 2 → ℕ) a + S512x128.size a ≤ S512x1024.size a := by
  revert h; decide
theorem lcol_inb (h : Fin 8) : ∀ a, (![0, h.val] : Fin 2 → ℕ) a + S512x1.size a ≤ S512x8.size a := by revert h; decide
theorem head_inb (h : Fin 8) : ∀ a, (![0, h.val, 0] : Fin 3 → ℕ) a + S2048x1x128.size a ≤ S2048x8x128.size a := by
  revert h; decide
theorem blk_inb (b : Fin 4) : ∀ a, (![512 * b.val, 0] : Fin 2 → ℕ) a + S512x128.size a ≤ S2048x128.size a := by
  revert b; decide
theorem fcols_inb (h : Fin 8) : ∀ a, (![0, 128 * h.val] : Fin 2 → ℕ) a + S32x128.size a ≤ S32x1024.size a := by
  revert h; decide
theorem lcol_slices (h : Fin 8) : S32x8.Slices ![0, h.val] S32x1 := by revert h; decide
theorem slot_inb {s : ℕ} (hs : s < 16) : ∀ a, (![s, 0, 0] : Fin 3 → ℕ) a + S1x32x1024.size a ≤ S16x32x1024.size a := by
  have h : ∀ s : Fin 16, ∀ a, (![s.val, 0, 0] : Fin 3 → ℕ) a + S1x32x1024.size a ≤ S16x32x1024.size a := by decide
  exact h ⟨s, hs⟩
theorem lslot_inb {s : ℕ} (hs : s < 16) : ∀ a, (![s, 0, 0] : Fin 3 → ℕ) a + S1x32x8.size a ≤ S16x32x8.size a := by
  have h : ∀ s : Fin 16, ∀ a, (![s.val, 0, 0] : Fin 3 → ℕ) a + S1x32x8.size a ≤ S16x32x8.size a := by decide
  exact h ⟨s, hs⟩
theorem sem_inb {s : ℕ} (hs : s < 16) : ∀ a, (![s] : Fin 1 → ℕ) a + S1.size a ≤ S16.size a := by
  have h : ∀ s : Fin 16, ∀ a, (![s.val] : Fin 1 → ℕ) a + S1.size a ≤ S16.size a := by decide
  exact h ⟨s, hs⟩

/-- Semaphore `s` of a row of sixteen. -/
abbrev semAt (a : DmaSems sig S16) {s : ℕ} (hs : s < 16) : DmaSem sig :=
  ((a.slice (Rect.unit (s := S16) ![s] S1.size (sem_inb hs))).squeeze S_ squeezes_S1_S_).sem
/-- Slot `s` of a landing buffer of row blocks. -/
abbrev slotM (m : Memref sig .tc .vmem S16x32x1024 .f32) {s : ℕ} (hs : s < 16) : Memref sig .tc .vmem S32x1024 .f32 :=
  (m.slice (Rect.unit (s := S16x32x1024) ![s, 0, 0] S1x32x1024.size (slot_inb hs)) (fun _ => rfl)).squeeze S32x1024 squeezes_S1x32x1024_S32x1024
/-- Slot `s` of the landing buffer of the row blocks of the denominators. -/
abbrev lslotM {s : ℕ} (hs : s < 16) : Memref sig .tc .vmem S32x8 .f32 :=
  (rlM.slice (Rect.unit (s := S16x32x8) ![s, 0, 0] S1x32x8.size (lslot_inb hs)) (fun _ => rfl)).squeeze S32x8 squeezes_S1x32x8_S32x8

theorem slot_lt (j : Fin 15) : 15 - j.val < 16 := by omega
theorem send_lt (j : Fin 15) : j.val + 1 < 16 := by omega

/-! ## Repetition -/

/-- `f 0`, then `f 1`, …, then `f (n - 1)`, each from what the one before it left. -/
def loop.{v} {E : Type → Type v} {α : Type} : (n : ℕ) → (Fin n → α → Prog E α) → α → Prog E α
  | 0, _, a => .ret a
  | n + 1, f, a => (f 0 a).bind fun b => loop n (fun i => f i.succ) b

/-! ## The pieces -/

/-- The device a repetition addresses: the printed chain for each of the fifteen. -/
def sigDev (d : Dev nD) : Fin 15 → Dev nD
  | ⟨0, _⟩ => ⟨k0_dev1 d, k0_dev1_lt d⟩
  | ⟨1, _⟩ => ⟨k0_dev2 d, k0_dev2_lt d⟩
  | ⟨2, _⟩ => ⟨k0_dev3 d, k0_dev3_lt d⟩
  | ⟨3, _⟩ => ⟨k0_dev4 d, k0_dev4_lt d⟩
  | ⟨4, _⟩ => ⟨k0_dev5 d, k0_dev5_lt d⟩
  | ⟨5, _⟩ => ⟨k0_dev6 d, k0_dev6_lt d⟩
  | ⟨6, _⟩ => ⟨k0_dev7 d, k0_dev7_lt d⟩
  | ⟨7, _⟩ => ⟨k0_dev8 d, k0_dev8_lt d⟩
  | ⟨8, _⟩ => ⟨k0_dev9 d, k0_dev9_lt d⟩
  | ⟨9, _⟩ => ⟨k0_dev10 d, k0_dev10_lt d⟩
  | ⟨10, _⟩ => ⟨k0_dev11 d, k0_dev11_lt d⟩
  | ⟨11, _⟩ => ⟨k0_dev12 d, k0_dev12_lt d⟩
  | ⟨12, _⟩ => ⟨k0_dev13 d, k0_dev13_lt d⟩
  | ⟨13, _⟩ => ⟨k0_dev14 d, k0_dev14_lt d⟩
  | ⟨14, _⟩ => ⟨k0_dev15 d, k0_dev15_lt d⟩
  | ⟨_ + 15, h⟩ => absurd h (Nat.not_lt.2 (Nat.le_add_left _ _))
def oDev (d : Dev nD) : Fin 15 → Dev nD
  | ⟨0, _⟩ => ⟨k0_dev16 d, k0_dev16_lt d⟩
  | ⟨1, _⟩ => ⟨k0_dev18 d, k0_dev18_lt d⟩
  | ⟨2, _⟩ => ⟨k0_dev20 d, k0_dev20_lt d⟩
  | ⟨3, _⟩ => ⟨k0_dev22 d, k0_dev22_lt d⟩
  | ⟨4, _⟩ => ⟨k0_dev24 d, k0_dev24_lt d⟩
  | ⟨5, _⟩ => ⟨k0_dev26 d, k0_dev26_lt d⟩
  | ⟨6, _⟩ => ⟨k0_dev28 d, k0_dev28_lt d⟩
  | ⟨7, _⟩ => ⟨k0_dev30 d, k0_dev30_lt d⟩
  | ⟨8, _⟩ => ⟨k0_dev32 d, k0_dev32_lt d⟩
  | ⟨9, _⟩ => ⟨k0_dev34 d, k0_dev34_lt d⟩
  | ⟨10, _⟩ => ⟨k0_dev36 d, k0_dev36_lt d⟩
  | ⟨11, _⟩ => ⟨k0_dev38 d, k0_dev38_lt d⟩
  | ⟨12, _⟩ => ⟨k0_dev40 d, k0_dev40_lt d⟩
  | ⟨13, _⟩ => ⟨k0_dev42 d, k0_dev42_lt d⟩
  | ⟨14, _⟩ => ⟨k0_dev44 d, k0_dev44_lt d⟩
  | ⟨_ + 15, h⟩ => absurd h (Nat.not_lt.2 (Nat.le_add_left _ _))
def lDev (d : Dev nD) : Fin 15 → Dev nD
  | ⟨0, _⟩ => ⟨k0_dev17 d, k0_dev17_lt d⟩
  | ⟨1, _⟩ => ⟨k0_dev19 d, k0_dev19_lt d⟩
  | ⟨2, _⟩ => ⟨k0_dev21 d, k0_dev21_lt d⟩
  | ⟨3, _⟩ => ⟨k0_dev23 d, k0_dev23_lt d⟩
  | ⟨4, _⟩ => ⟨k0_dev25 d, k0_dev25_lt d⟩
  | ⟨5, _⟩ => ⟨k0_dev27 d, k0_dev27_lt d⟩
  | ⟨6, _⟩ => ⟨k0_dev29 d, k0_dev29_lt d⟩
  | ⟨7, _⟩ => ⟨k0_dev31 d, k0_dev31_lt d⟩
  | ⟨8, _⟩ => ⟨k0_dev33 d, k0_dev33_lt d⟩
  | ⟨9, _⟩ => ⟨k0_dev35 d, k0_dev35_lt d⟩
  | ⟨10, _⟩ => ⟨k0_dev37 d, k0_dev37_lt d⟩
  | ⟨11, _⟩ => ⟨k0_dev39 d, k0_dev39_lt d⟩
  | ⟨12, _⟩ => ⟨k0_dev41 d, k0_dev41_lt d⟩
  | ⟨13, _⟩ => ⟨k0_dev43 d, k0_dev43_lt d⟩
  | ⟨14, _⟩ => ⟨k0_dev45 d, k0_dev45_lt d⟩
  | ⟨_ + 15, h⟩ => absurd h (Nat.not_lt.2 (Nat.le_add_left _ _))
def gDev (d : Dev nD) : Fin 15 → Dev nD
  | ⟨0, _⟩ => ⟨k0_dev46 d, k0_dev46_lt d⟩
  | ⟨1, _⟩ => ⟨k0_dev47 d, k0_dev47_lt d⟩
  | ⟨2, _⟩ => ⟨k0_dev48 d, k0_dev48_lt d⟩
  | ⟨3, _⟩ => ⟨k0_dev49 d, k0_dev49_lt d⟩
  | ⟨4, _⟩ => ⟨k0_dev50 d, k0_dev50_lt d⟩
  | ⟨5, _⟩ => ⟨k0_dev51 d, k0_dev51_lt d⟩
  | ⟨6, _⟩ => ⟨k0_dev52 d, k0_dev52_lt d⟩
  | ⟨7, _⟩ => ⟨k0_dev53 d, k0_dev53_lt d⟩
  | ⟨8, _⟩ => ⟨k0_dev54 d, k0_dev54_lt d⟩
  | ⟨9, _⟩ => ⟨k0_dev55 d, k0_dev55_lt d⟩
  | ⟨10, _⟩ => ⟨k0_dev56 d, k0_dev56_lt d⟩
  | ⟨11, _⟩ => ⟨k0_dev57 d, k0_dev57_lt d⟩
  | ⟨12, _⟩ => ⟨k0_dev58 d, k0_dev58_lt d⟩
  | ⟨13, _⟩ => ⟨k0_dev59 d, k0_dev59_lt d⟩
  | ⟨14, _⟩ => ⟨k0_dev60 d, k0_dev60_lt d⟩
  | ⟨_ + 15, h⟩ => absurd h (Nat.not_lt.2 (Nat.le_add_left _ _))

abbrev P (F : FTy → Type) (α : Type) := Prog (TpuEff nD τ sig (Elt F) Λ₀ .tc) α

/-- One signal of the entry barrier. -/
def signalP (d : Dev nD) (j : Fin 15) : P F PUnit :=
  semSignalWord (sigDev d j) (SemArray.scalar (sig.barrier 0 rfl) : Sems sig S_).sem 1#32

/-- The projection of the queries. -/
def qP : P F PUnit := do
  let v64 : Vec F S512x1024 .f32 ← Prog.lift (.load xM (Rect.unit (s := S512x1024) ![0, 0] S512x1024.size inb_S512x1024_S512x1024_0_0).toLoadRect (View.loadsAt_vmem h_S512x1024))
  let v67 : Vec F S1024x1024 .f32 ← Prog.lift (.load wqM (Rect.unit (s := S1024x1024) ![0, 0] S1024x1024.size inb_S1024x1024_S1024x1024_0_0).toLoadRect (View.loadsAt_vmem h_S1024x1024))
  let v74 : Vec F S512x1024 .bf16 ← Prog.lift (.load qM (Rect.unit (s := S512x1024) ![0, 0] S512x1024.size inb_S512x1024_S512x1024_0_0).toLoadRect (View.loadsAt_vmem h_S512x1024))
  Prog.lift (.store qM (Rect.unit (s := S512x1024) ![0, 0] S512x1024.size inb_S512x1024_S512x1024_0_0) (k0_pay2 (k0_pay1 v64 v67)) Finset.univ (View.stores_vmem h_S512x1024 ((Memref.isWhole_whole _).storeExact_slice rfl _ packedbf16_S512x1024_S512x1024_0_0) (fun _ => rfl)) (.inl rfl))

/-- One head's slice of the keys (or values), as the kernel reads it in place. -/
abbrev headM (m : Memref sig .tc .hbm S2048x8x128 .f32) (h : Fin 8) : Memref sig .tc .hbm S2048x128 .f32 :=
  (m.slice (Rect.unit (s := S2048x8x128) ![0, h.val, 0] S2048x1x128.size (head_inb h)) (fun _ => rfl)).squeeze S2048x128 squeezes_S2048x1x128_S2048x128
/-- The two semaphores of the copies of keys and values. -/
abbrev ksem : DmaSem sig := ((cc0_scratch9.slice (Rect.unit (s := S2) ![0] S1.size inb_S2_S1_0)).squeeze S_ squeezes_S1_S_).sem
abbrev vsem : DmaSem sig := ((cc0_scratch9.slice (Rect.unit (s := S2) ![1] S1.size inb_S2_S1_1)).squeeze S_ squeezes_S1_S_).sem

/-- One head's keys and values, copied in. -/
def copyP (h : Fin 8) : P F PUnit := do
  Prog.lift (.enqueueDma (headM kM h) (.here khM) (.dma ksem) ((View.wordExact_bits rfl).reshape _ _) (Memref.isWhole_whole _).wordExact ⟨Or.inl rfl, trivial⟩)
  Prog.lift (.enqueueDma (headM vM h) (.here vhM) (.dma vsem) ((View.wordExact_bits rfl).reshape _ _) (Memref.isWhole_whole _).wordExact ⟨Or.inl rfl, trivial⟩)
  Prog.lift (.waitDma2 ksem (headM kM h) khM ((View.wordExact_bits rfl).reshape _ _) (Memref.isWhole_whole _).wordExact)
  Prog.lift (.waitDma2 vsem (headM vM h) vhM ((View.wordExact_bits rfl).reshape _ _) (Memref.isWhole_whole _).wordExact)

/-- A block of 512 keys (or values) of the head copied in. -/
abbrev blkP (m : Memref sig .tc .vmem S2048x128 .f32) (b : Fin 4) : P F (Vec F S512x128 .f32) :=
  Prog.lift (.load m (Rect.unit (s := S2048x128) ![512 * b.val, 0] S512x128.size (blk_inb b)).toLoadRect (View.loadsAt_vmem h_S512x128))

/-- One head. -/
def headP (h : Fin 8) : P F PUnit := do
  copyP h
  let q : Vec F S512x128 .bf16 ← Prog.lift (.load qM (Rect.unit (s := S512x1024) ![0, 128 * h.val] S512x128.size (cols_inb h)).toLoadRect (View.loadsAt_vmem h_S512x128))
  let k0 ← blkP khM 0
  let v0 ← blkP vhM 0
  let k1 ← blkP khM 1
  let v1 ← blkP vhM 1
  let k2 ← blkP khM 2
  let v2 ← blkP vhM 2
  let k3 ← blkP khM 3
  let v3 ← blkP vhM 3
  let _ : Vec F S512x128 .f32 ← Prog.lift (.load accM (Rect.unit (s := S512x1024) ![0, 128 * h.val] S512x128.size (cols_inb h)).toLoadRect (View.loadsAt_vmem h_S512x128))
  Prog.lift (.store accM (Rect.unit (s := S512x1024) ![0, 128 * h.val] S512x128.size (cols_inb h)) (k0_pay10 q (k0_pay5 q k0 v0) k1 v1 k2 v2 k3 v3) Finset.univ (View.stores_vmem_bits_univ h_S512x128 rfl) (.inl rfl))
  let _ : Vec F S512x1 .f32 ← Prog.lift (.load lM (Rect.unit (s := S512x8) ![0, h.val] S512x1.size (lcol_inb h)).toLoadRect (View.loadsAt_vmem h_S512x1))
  Prog.lift (.store lM (Rect.unit (s := S512x8) ![0, h.val] S512x1.size (lcol_inb h)) (k0_pay11 (k0_pay9 q (k0_pay4 q k0) k1 k2 k3)) Finset.univ (View.stores_vmem_bits_univ h_S512x1 rfl) (.inl rfl))

/-- The row block of an array of 512 rows at offsets `off`. -/
abbrev rowsM (m : Memref sig .tc .vmem S512x1024 .f32) (off : Fin 2 → ℕ) (inb : ∀ a, off a + S32x1024.size a ≤ S512x1024.size a) :
    Memref sig .tc .vmem S32x1024 .f32 := m.slice (Rect.unit (s := S512x1024) off S32x1024.size inb) (fun _ => rfl)
abbrev lrowsM (off : Fin 2 → ℕ) (inb : ∀ a, off a + S32x8.size a ≤ S512x8.size a) :
    Memref sig .tc .vmem S32x8 .f32 := lM.slice (Rect.unit (s := S512x8) off S32x8.size inb) (fun _ => rfl)

/-- The partial sums of the addressed device's rows, sent to it. -/
def sendOP (d : Dev nD) (j : Fin 15) : P F PUnit :=
  Prog.lift (.enqueueDma (rowsM accM (k0_off1 d (BitVec.ofNat 32 (1 + j.val))) (k0_off1_inb d j)) (.remote (Dev.tc (oDev d j)) (slotM rsM (slot_lt j)) (.dma (semAt cc0_scratch10 (send_lt j)))) (.dma (semAt cc0_scratch11 (slot_lt j))) (View.wordExact_bits rfl) ((View.wordExact_bits rfl).reshape _ _) ⟨⟨rfl, Or.inl rfl⟩, trivial⟩)
/-- The partial denominators of the addressed device's rows, sent to it. -/
def sendLP (d : Dev nD) (j : Fin 15) : P F PUnit :=
  Prog.lift (.enqueueDma (lrowsM (k0_off2 d (BitVec.ofNat 32 (1 + j.val))) (k0_off2_inb d j)) (.remote (Dev.tc (lDev d j)) (lslotM (slot_lt j)) (.dma (semAt cc0_scratch12 (send_lt j)))) (.dma (semAt cc0_scratch13 (slot_lt j))) (View.wordExact_bits rfl) ((View.wordExact_bits rfl).reshape _ _) ⟨⟨rfl, Or.inl rfl⟩, trivial⟩)

/-- The device's own rows of its own partial sums. -/
def ownOP (d : Dev nD) : P F (Vec F S32x1024 .f32) :=
  Prog.lift (.load accM (Rect.unit (s := S512x1024) (k0_off3 d) S32x1024.size (k0_off3_inb d)).toLoadRect (View.loadsAt_vmem h_S32x1024))
def ownLP (d : Dev nD) : P F (Vec F S32x8 .f32) :=
  Prog.lift (.load lM (Rect.unit (s := S512x8) (k0_off4 d) S32x8.size (k0_off4_inb d)).toLoadRect (View.loadsAt_vmem h_S32x8))

/-- One peer's contribution, waited for and added. -/
def recvP (d : Dev nD) (j : Fin 15) (a : Vec F S32x1024 .f32 × Vec F S32x8 .f32) : P F (Vec F S32x1024 .f32 × Vec F S32x8 .f32) := do
  Prog.lift (.waitDma2 (semAt cc0_scratch11 (slot_lt j)) (slotM rsM (slot_lt j)) (slotM rsM (slot_lt j)) ((View.wordExact_bits rfl).reshape _ _) ((View.wordExact_bits rfl).reshape _ _))
  Prog.lift (.waitDma2 (semAt cc0_scratch13 (slot_lt j)) (lrowsM (k0_off5 d) (k0_off5_inb d)) (lslotM (slot_lt j)) (View.wordExact_bits rfl) ((View.wordExact_bits rfl).reshape _ _))
  let o : Vec F S1x32x1024 .f32 ← Prog.lift (.load rsM (Rect.unit (s := S16x32x1024) ![15 - j.val, 0, 0] S1x32x1024.size (slot_inb (slot_lt j))).toLoadRect (View.loadsAt_vmem h_S1x32x1024))
  let l : Vec F S1x32x8 .f32 ← Prog.lift (.load rlM (Rect.unit (s := S16x32x8) ![15 - j.val, 0, 0] S1x32x8.size (lslot_inb (slot_lt j))).toLoadRect (View.loadsAt_vmem h_S1x32x8))
  pure (k0_pay85 a.1 o, k0_pay86 a.2 l)

/-- The totals, stored. -/
def totP (o : Vec F S32x1024 .f32) : P F PUnit := do
  let _ : Vec F S32x1024 .f32 ← Prog.lift (.load finM (Rect.unit (s := S32x1024) ![0, 0] S32x1024.size inb_S32x1024_S32x1024_0_0).toLoadRect (View.loadsAt_vmem h_S32x1024))
  Prog.lift (.store finM (Rect.unit (s := S32x1024) ![0, 0] S32x1024.size inb_S32x1024_S32x1024_0_0) (k0_pay121 o) Finset.univ (View.stores_vmem_bits_univ h_S32x1024 rfl) (.inl rfl))

/-- A head's columns of the totals over the head's denominators. -/
def divV (h : Fin 8) (l : FVec F S32x8 .f32) (x : Vec F S32x128 .f32) : FVec F S32x128 .f32 :=
  shapeCast S32x128 (divf x (broadcastTo S32x128 (extractStridedSlice S32x1 ![0, h.val] l (lcol_slices h)) broadcasts_S32x1_S32x128)) shapeCasts_S32x128_S32x128

/-- One head's division. -/
def divP (l : Vec F S32x8 .f32) (h : Fin 8) : P F PUnit := do
  let x : Vec F S32x128 .f32 ← Prog.lift (.load finM (Rect.unit (s := S32x1024) ![0, 128 * h.val] S32x128.size (fcols_inb h)).toLoadRect (View.loadsAt_vmem h_S32x128))
  let _ : Vec F S32x128 .f32 ← Prog.lift (.load finM (Rect.unit (s := S32x1024) ![0, 128 * h.val] S32x128.size (fcols_inb h)).toLoadRect (View.loadsAt_vmem h_S32x128))
  Prog.lift (.store finM (Rect.unit (s := S32x1024) ![0, 128 * h.val] S32x128.size (fcols_inb h)) (divV h l x) Finset.univ (View.stores_vmem_bits_univ h_S32x128 rfl) (.inl rfl))

/-- The device's rows through the output projection, into the result and into the buffer sent round. -/
def projP (d : Dev nD) : P F PUnit := do
  let f : Vec F S32x1024 .f32 ← Prog.lift (.load finM (Rect.unit (s := S32x1024) ![0, 0] S32x1024.size inb_S32x1024_S32x1024_0_0).toLoadRect (View.loadsAt_vmem h_S32x1024))
  let w : Vec F S1024x1024 .f32 ← Prog.lift (.load woM (Rect.unit (s := S1024x1024) ![0, 0] S1024x1024.size inb_S1024x1024_S1024x1024_0_0).toLoadRect (View.loadsAt_vmem h_S1024x1024))
  let _ : Vec F S32x1024 .f32 ← Prog.lift (.load outM (Rect.unit (s := S512x1024) (k0_off3 d) S32x1024.size (k0_off3_inb d)).toLoadRect (View.loadsAt_vmem h_S32x1024))
  Prog.lift (.store outM (Rect.unit (s := S512x1024) (k0_off3 d) S32x1024.size (k0_off3_inb d)) (k0_pay120 f w) Finset.univ (View.stores_vmem_bits_univ h_S32x1024 rfl) (.inl rfl))
  totP (k0_pay120 f w)

/-- The device's rows of the result, sent to a peer. -/
def sendGP (d : Dev nD) (j : Fin 15) : P F PUnit :=
  Prog.lift (.enqueueDma finM (.remote (Dev.tc (gDev d j)) (slotM agM (slot_lt j)) (.dma (semAt cc0_scratch14 (send_lt j)))) (.dma (semAt cc0_scratch15 (slot_lt j))) (Memref.isWhole_whole _).wordExact ((View.wordExact_bits rfl).reshape _ _) ⟨⟨rfl, Or.inl rfl⟩, trivial⟩)

/-- One peer's rows of the result, waited for and put in place. -/
def gatherP (d : Dev nD) (j : Fin 15) : P F PUnit := do
  Prog.lift (.waitDma2 (semAt cc0_scratch15 (slot_lt j)) (slotM agM (slot_lt j)) (slotM agM (slot_lt j)) ((View.wordExact_bits rfl).reshape _ _) ((View.wordExact_bits rfl).reshape _ _))
  let y : Vec F S1x32x1024 .f32 ← Prog.lift (.load agM (Rect.unit (s := S16x32x1024) ![15 - j.val, 0, 0] S1x32x1024.size (slot_inb (slot_lt j))).toLoadRect (View.loadsAt_vmem h_S1x32x1024))
  let _ : Vec F S32x1024 .f32 ← Prog.lift (.load outM (Rect.unit (s := S512x1024) (k0_off6 d (BitVec.ofNat 32 (1 + j.val))) S32x1024.size (k0_off6_inb d j)).toLoadRect (View.loadsAt_vmem h_S32x1024))
  Prog.lift (.store outM (Rect.unit (s := S512x1024) (k0_off6 d (BitVec.ofNat 32 (1 + j.val))) S32x1024.size (k0_off6_inb d j)) (k0_pay122 y) Finset.univ (View.stores_vmem_bits_univ h_S32x1024 rfl) (.inl rfl))

/-- The two sends of the first exchange to a peer, waited for. -/
def sentP (d : Dev nD) (j : Fin 15) : P F PUnit := do
  Prog.lift (.waitDma2 (semAt cc0_scratch10 (send_lt j)) (slotM rsM (slot_lt j)) (rowsM accM (k0_off1 d (BitVec.ofNat 32 (1 + j.val))) (k0_off1_inb d j)) ((View.wordExact_bits rfl).reshape _ _) (View.wordExact_bits rfl))
  Prog.lift (.waitDma2 (semAt cc0_scratch12 (send_lt j)) (lslotM (slot_lt j)) (lrowsM (k0_off2 d (BitVec.ofNat 32 (1 + j.val))) (k0_off2_inb d j)) ((View.wordExact_bits rfl).reshape _ _) (View.wordExact_bits rfl))
/-- The send of the second exchange to a peer, waited for. -/
def sentGP (j : Fin 15) : P F PUnit :=
  Prog.lift (.waitDma2 (semAt cc0_scratch14 (send_lt j)) (slotM agM (slot_lt j)) finM ((View.wordExact_bits rfl).reshape _ _) (Memref.isWhole_whole _).wordExact)

/-- The body, from its device's number on. -/
def restP (d : Dev nD) : P F PUnit := do
  loop 15 (fun j _ => signalP d j) PUnit.unit
  semWaitWord (SemArray.scalar (sig.barrier 0 rfl) : Sems sig S_).sem 15#32
  qP
  loop 8 (fun h _ => headP h) PUnit.unit
  loop 15 (fun j _ => (sendOP d j).bind fun _ => sendLP d j) PUnit.unit
  let o ← ownOP d
  let l ← ownLP d
  let t : Vec F S32x1024 .f32 × Vec F S32x8 .f32 ← loop 15 (recvP d) (o, l)
  totP t.1
  loop 8 (fun h _ => divP t.2 h) PUnit.unit
  projP d
  loop 15 (fun j _ => sendGP d j) PUnit.unit
  loop 15 (fun j _ => gatherP d j) PUnit.unit
  loop 15 (fun j _ => sentP d j) PUnit.unit
  loop 15 (fun j _ => sentGP j) PUnit.unit

def bodyP : P F PUnit := Prog.op .deviceId fun d => restP d

/-! ## The printed body is these pieces -/

set_option maxRecDepth 65536 in
theorem skel_eq : cc0_body_skel (F := F) xM (Memref.isWhole_whole _) wqM (Memref.isWhole_whole _) woM (Memref.isWhole_whole _) kM (Memref.isWhole_whole _) vM (Memref.isWhole_whole _) outM (Memref.isWhole_whole _)
    qM (Memref.isWhole_whole _) accM (Memref.isWhole_whole _) lM (Memref.isWhole_whole _) rsM (Memref.isWhole_whole _) rlM (Memref.isWhole_whole _) agM (Memref.isWhole_whole _) finM (Memref.isWhole_whole _)
    khM (Memref.isWhole_whole _) vhM (Memref.isWhole_whole _) cc0_scratch9 cc0_scratch10 cc0_scratch11 cc0_scratch12 cc0_scratch13 cc0_scratch14 cc0_scratch15
  = bodyP (F := F) := by
  chain_rfl

end Cert.KernelIdeal.Body

end
-- ==== Proof.Proto.lean ====
/- The exchange between the sixteen devices as a protocol: who sends what to whom, what every buffer holds at which
   point, what each semaphore's raise hands over, what each device owes, and in which order it may wait. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring
public import Idealize.ShloMosaic.Lib.VecWindow
public import Idealize.ShloMosaic.Lib.ValueIdxCore

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-! ## The resource algebra: the pipeline's copy, the exchange's, the local copies' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] [Named F] in
instance ER_landsIn : (ER : Emb UB 𝕄).LandsIn (upEmb : UEmb _ 𝕄) := by unfold ER; infer_instance

variable (m : (ℓ : Loc nD τ sig) → Buf (Elt F) ℓ) (ρ : Dev nD → PrngReg)

/-! ## The devices -/

/-- The device that repetition `j` of device `c` addresses. -/
def peer (c : Dev nD) (j : Fin 15) : Dev nD := ⟨(c.val + j.val + 1) % 16, Nat.mod_lt _ (by decide)⟩
/-- The device whose rows device `c` takes in at step `n`. -/
def src (c : Dev nD) (n : ℕ) : Dev nD := ⟨(c.val + 15 - n) % 16, Nat.mod_lt _ (by decide)⟩

theorem src_peer (c : Dev nD) (j : Fin 15) : src (peer c j) j.val = c := by revert c j; decide
theorem peer_src (c : Dev nD) (j : Fin 15) : peer (src c j.val) j = c := by revert c j; decide
theorem peer_rev (c : Dev nD) (j : Fin 15) : peer (peer c j) (Fin.rev j) = c := by revert c j; decide
theorem peer_ne (c : Dev nD) (j : Fin 15) : peer c j ≠ c := by revert c j; decide
theorem peer_inj (c : Dev nD) : Function.Injective (peer c) := by revert c; decide

theorem sigDev_eq (c : Dev nD) (j : Fin 15) : sigDev c j = peer c j := by
  fin_cases j <;> apply Fin.ext
  exacts [k0_dev1_eq c, k0_dev2_eq c, k0_dev3_eq c, k0_dev4_eq c, k0_dev5_eq c, k0_dev6_eq c, k0_dev7_eq c, k0_dev8_eq c,
    k0_dev9_eq c, k0_dev10_eq c, k0_dev11_eq c, k0_dev12_eq c, k0_dev13_eq c, k0_dev14_eq c, k0_dev15_eq c]
theorem oDev_eq (c : Dev nD) (j : Fin 15) : oDev c j = peer c j := by
  fin_cases j <;> apply Fin.ext
  exacts [k0_dev16_eq c, k0_dev18_eq c, k0_dev20_eq c, k0_dev22_eq c, k0_dev24_eq c, k0_dev26_eq c, k0_dev28_eq c, k0_dev30_eq c,
    k0_dev32_eq c, k0_dev34_eq c, k0_dev36_eq c, k0_dev38_eq c, k0_dev40_eq c, k0_dev42_eq c, k0_dev44_eq c]
theorem lDev_eq (c : Dev nD) (j : Fin 15) : lDev c j = peer c j := by
  fin_cases j <;> apply Fin.ext
  exacts [k0_dev17_eq c, k0_dev19_eq c, k0_dev21_eq c, k0_dev23_eq c, k0_dev25_eq c, k0_dev27_eq c, k0_dev29_eq c, k0_dev31_eq c,
    k0_dev33_eq c, k0_dev35_eq c, k0_dev37_eq c, k0_dev39_eq c, k0_dev41_eq c, k0_dev43_eq c, k0_dev45_eq c]
theorem gDev_eq (c : Dev nD) (j : Fin 15) : gDev c j = peer c j := by
  fin_cases j <;> apply Fin.ext
  exacts [k0_dev46_eq c, k0_dev47_eq c, k0_dev48_eq c, k0_dev49_eq c, k0_dev50_eq c, k0_dev51_eq c, k0_dev52_eq c, k0_dev53_eq c,
    k0_dev54_eq c, k0_dev55_eq c, k0_dev56_eq c, k0_dev57_eq c, k0_dev58_eq c, k0_dev59_eq c, k0_dev60_eq c]

/-! ## The semaphores -/

abbrev barS : Sem sig := (SemArray.scalar (sig.barrier 0 rfl) : Sems sig S_).sem

/-- The semaphores of the three exchanges: sending and landing, of sums, of denominators, of result rows. -/
def kq : Fin 6 → Fin 15 → DmaSem sig
  | 0, j => semAt cc0_scratch10 (send_lt j)
  | 1, j => semAt cc0_scratch11 (slot_lt j)
  | 2, j => semAt cc0_scratch12 (send_lt j)
  | 3, j => semAt cc0_scratch13 (slot_lt j)
  | 4, j => semAt cc0_scratch14 (send_lt j)
  | 5, j => semAt cc0_scratch15 (slot_lt j)

theorem kq_val (k : Fin 6) (j : Fin 15) : (kq k j).val = 6 + 16 * k.val + (if k.val % 2 = 0 then j.val + 1 else 15 - j.val) := by
  revert k j; decide

/-- A device's cells: the entry barrier's, and the exchanges'. -/
abbrev Cell : Type := Unit ⊕ Fin 6 × Fin 15

def csem : Cell → SemLoc sig
  | .inl _ => .reg barS
  | .inr kj => .dma (kq kj.1 kj.2)

theorem csem_inj : Function.Injective csem := by
  rintro (_ | ⟨k, j⟩) (_ | ⟨k', j'⟩) h
  · rfl
  · cases h
  · cases h
  · have hv : (kq k j).val = (kq k' j').val := by injection h with h; exact congrArg Fin.val h
    rw [kq_val, kq_val] at hv
    have hk : k = k' := Fin.ext (by split at hv <;> split at hv <;> omega)
    subst hk
    have hj : j = j' := Fin.ext (by split at hv <;> omega)
    subst hj; rfl

open Classical in
/-- Which cell a semaphore is. -/
def dec (sm : SemLoc sig) : Option Cell := if h : ∃ k, csem k = sm then some h.choose else none
theorem dec_csem (k : Cell) : dec (csem k) = some k := by
  have h : ∃ k', csem k' = csem k := ⟨k, rfl⟩
  unfold dec; rw [dif_pos h]; exact congrArg some (csem_inj h.choose_spec)

abbrev kcell (c : Dev nD) (k : Cell) : GSem nD τ sig := ((c : Thread nD τ), csem k)
abbrev bar (c : Dev nD) : GSem nD τ sig := kcell c (.inl ())
abbrev kc (c : Dev nD) (k : Fin 6) (j : Fin 15) : GSem nD τ sig := kcell c (.inr (k, j))

/-- The units a transfer of a row block raises: of sums (or result rows), of denominators. -/
def NO : ℕ := (finM : Memref sig .tc .vmem S32x1024 .f32).view.dmaCredit
def NL : ℕ := (lslotM (slot_lt 0)).view.dmaCredit
theorem NO_pos : 0 < NO := View.dmaCredit_pos _ (by decide)
theorem NL_pos : 0 < NL := View.dmaCredit_pos _ (by decide)
def NK (k : Fin 6) : ℕ := if k = 2 ∨ k = 3 then NL else NO
theorem NK_pos (k : Fin 6) : 0 < NK k := by unfold NK; split; exacts [NL_pos, NO_pos]

/-! ## What the buffers hold -/

def xA (c : Dev nD) : Vec F S512x1024 .f32 := (win0_0.blk (0 : Fin 1)).view.read (Elt F) (m ((c : Thread nD τ).loc main_arg0))
def wqA (c : Dev nD) : Vec F S1024x1024 .f32 := (win0_1.blk (0 : Fin 1)).view.read (Elt F) (m ((c : Thread nD τ).loc main_arg1))
def woA (c : Dev nD) : Vec F S1024x1024 .f32 := (win0_2.blk (0 : Fin 1)).view.read (Elt F) (m ((c : Thread nD τ).loc main_arg4))
def kA (c : Dev nD) : Vec F S2048x8x128 .f32 := m ((c : Thread nD τ).loc main_arg2)
def vA (c : Dev nD) : Vec F S2048x8x128 .f32 := m ((c : Thread nD τ).loc main_arg3)

/-- The projected queries. -/
def qF (c : Dev nD) : Vec F S512x1024 .bf16 := k0_pay2 (k0_pay1 (xA m c) (wqA m c))
def qcols (h : Fin 8) (q : Vec F S512x1024 .bf16) : Vec F S512x128 .bf16 :=
  (qM : Memref sig .tc .vmem S512x1024 .bf16).view.readAt (Elt F) (Rect.unit (s := S512x1024) ![0, 128 * h.val] S512x128.size (cols_inb h)).toLoadRect q
/-- A head's keys and values. -/
def kH (c : Dev nD) (h : Fin 8) : Vec F S2048x128 .f32 := (headM kM h).view.read (Elt F) (kA m c)
def vH (c : Dev nD) (h : Fin 8) : Vec F S2048x128 .f32 := (headM vM h).view.read (Elt F) (vA m c)
def blk (b : Fin 4) (x : Vec F S2048x128 .f32) : Vec F S512x128 .f32 :=
  (khM : Memref sig .tc .vmem S2048x128 .f32).view.readAt (Elt F) (Rect.unit (s := S2048x128) ![512 * b.val, 0] S512x128.size (blk_inb b)).toLoadRect x

/-- A head's partial sums and denominators from its queries, keys and values. -/
def hdO (q : Vec F S512x128 .bf16) (k v : Vec F S2048x128 .f32) : Vec F S512x128 .f32 :=
  k0_pay10 q (k0_pay5 q (blk 0 k) (blk 0 v)) (blk 1 k) (blk 1 v) (blk 2 k) (blk 2 v) (blk 3 k) (blk 3 v)
def hdL (q : Vec F S512x128 .bf16) (k : Vec F S2048x128 .f32) : Vec F S512x1 .f32 :=
  k0_pay11 (k0_pay9 q (k0_pay4 q (blk 0 k)) (blk 1 k) (blk 2 k) (blk 3 k))
def headO (c : Dev nD) (h : Fin 8) : Vec F S512x128 .f32 := hdO (qcols h (qF m c)) (kH m c h) (vH m c h)
def headL (c : Dev nD) (h : Fin 8) : Vec F S512x1 .f32 := hdL (qcols h (qF m c)) (kH m c h)

/-- The head and the place in it of a column. -/
def cH (n : Fin 1024) : Fin 8 := ⟨n.val / 128, by omega⟩
def cC (n : Fin 1024) : Fin 128 := ⟨n.val % 128, Nat.mod_lt _ (by decide)⟩

/-- The partial sums of all heads, and the denominators. -/
def accF (c : Dev nD) : Vec F S512x1024 .f32 := fun i => headO m c (cH (i 1)) (ix2 (n0 := 512) (n1 := 128) (i 0) (cC (i 1)))
def lF (c : Dev nD) : Vec F S512x8 .f32 := fun i => headL m c (i 1) (ix2 (n0 := 512) (n1 := 1) (i 0) 0)

/-- Row `r` of row block `d`. -/
def rowAt (d : Dev nD) (r : Fin 32) : Fin 512 := ⟨32 * d.val + r.val, by have := d.isLt; have : nD = 16 := rfl; omega⟩
/-- Row block `d` of an array of 512 rows. -/
def rowsOf (d : Dev nD) (x : Vec F S512x1024 .f32) : Vec F S32x1024 .f32 := fun y => x (ix2 (n0 := 512) (n1 := 1024) (rowAt d (y 0)) (y 1))
def lrowsOf (d : Dev nD) (x : Vec F S512x8 .f32) : Vec F S32x8 .f32 := fun y => x (ix2 (n0 := 512) (n1 := 8) (rowAt d (y 0)) (y 1))

/-- A row block as the slot of a landing buffer is loaded. -/
def lead (x : Vec F S32x1024 .f32) : Vec F S1x32x1024 .f32 := fun y => x (ix2 (n0 := 32) (n1 := 1024) (y 1) (y 2))
def llead (x : Vec F S32x8 .f32) : Vec F S1x32x8 .f32 := fun y => x (ix2 (n0 := 32) (n1 := 8) (y 1) (y 2))

/-- The totals of device `c`'s rows once `n` peers are added. -/
def tot (c : Dev nD) : ℕ → Vec F S32x1024 .f32 × Vec F S32x8 .f32
  | 0 => (rowsOf c (accF m c), lrowsOf c (lF m c))
  | n + 1 => (k0_pay85 (tot c n).1 (lead (rowsOf c (accF m (src c n)))), k0_pay86 (tot c n).2 (llead (lrowsOf c (lF m (src c n)))))

def fcols (h : Fin 8) (x : Vec F S32x1024 .f32) : Vec F S32x128 .f32 :=
  (finM : Memref sig .tc .vmem S32x1024 .f32).view.readAt (Elt F) (Rect.unit (s := S32x1024) ![0, 128 * h.val] S32x128.size (fcols_inb h)).toLoadRect x
/-- The quotients. -/
def finF (c : Dev nD) : Vec F S32x1024 .f32 := fun i =>
  divV (cH (i 1)) (tot m c 15).2 (fcols (cH (i 1)) (k0_pay121 (tot m c 15).1)) (ix2 (n0 := 32) (n1 := 128) (i 0) (cC (i 1)))
/-- The device's rows of the result. -/
def yF (c : Dev nD) : Vec F S32x1024 .f32 := k0_pay120 (finF m c) (woA m c)
/-- The row block and the place in it of a row. -/
def rB (n : Fin 512) : Dev nD := ⟨n.val / 32, by have : nD = 16 := rfl; omega⟩
def rR (n : Fin 512) : Fin 32 := ⟨n.val % 32, Nat.mod_lt _ (by decide)⟩
/-- The result. -/
def outF : Vec F S512x1024 .f32 := fun i => yF m (rB (i 0)) (ix2 (n0 := 32) (n1 := 1024) (rR (i 0)) (i 1))

/-! ## What the semaphores hand over -/

abbrev pts {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f
/-- A buffer that reads `x`. -/
def holds {sp : Space} {s : Shape} {e : EltTy} (c : Dev nD) (M : Memref sig .tc sp s e) (x : Vec F s e) : sProp 𝕄 :=
  iprop(∃ f, ⌜M.view.read (Elt F) f = x⌝ ∗ pts c M f)
/-- A buffer holding anything. -/
def some' {sp : Space} {s : Shape} {e : EltTy} (c : Dev nD) (M : Memref sig .tc sp s e) : sProp 𝕄 := iprop(∃ f, pts (F := F) c M f)

omit [FloatOps F] [Named F] in
instance holds_storable {sp : Space} {s : Shape} {e : EltTy} (c : Dev nD) (M : Memref sig .tc sp s e) (x : Vec F s e) :
    BI.Storable (upEmb : UEmb _ 𝕄) (holds c M x) := by unfold holds; infer_instance
omit [FloatOps F] [Named F] in
instance some_storable {sp : Space} {s : Shape} {e : EltTy} (c : Dev nD) (M : Memref sig .tc sp s e) :
    BI.Storable (upEmb : UEmb _ 𝕄) (some' (F := F) c M) := by unfold some'; infer_instance

/-- Device `c`'s landing slots of repetition `j`. -/
def slots (c : Dev nD) (j : Fin 15) : sProp 𝕄 :=
  iprop(some' (F := F) c (slotM rsM (slot_lt j)) ∗ some' (F := F) c (lslotM (slot_lt j)) ∗ some' (F := F) c (slotM agM (slot_lt j)))

theorem blk_inb2 (d : Dev nD) : ∀ a, (![32 * d.val, 0] : Fin 2 → ℕ) a + S32x1024.size a ≤ S512x1024.size a := by revert d; decide
theorem lblk_inb2 (d : Dev nD) : ∀ a, (![32 * d.val, 0] : Fin 2 → ℕ) a + S32x8.size a ≤ S512x8.size a := by revert d; decide
/-- Row block `d` of the sums, of the denominators, of the result. -/
abbrev accB (d : Dev nD) : Memref sig .tc .vmem S32x1024 .f32 := rowsM accM ![32 * d.val, 0] (blk_inb2 d)
abbrev lB (d : Dev nD) : Memref sig .tc .vmem S32x8 .f32 := lrowsM ![32 * d.val, 0] (lblk_inb2 d)

def kpay (c : Dev nD) : Fin 6 → Fin 15 → sProp 𝕄
  | 0, j => pts c (accB (peer c j)) (accF m c)
  | 1, j => holds c (slotM rsM (slot_lt j)) (rowsOf c (accF m (src c j.val)))
  | 2, j => pts c (lB (peer c j)) (lF m c)
  | 3, j => holds c (lslotM (slot_lt j)) (lrowsOf c (lF m (src c j.val)))
  | 4, j => (finM : Memref sig .tc .vmem S32x1024 .f32).view.loc (c : Thread nD τ) ↦[(finM : Memref sig .tc .vmem S32x1024 .f32).view.set]{Transfers.shareTok fullShare 15 j} yF m c
  | 5, j => holds c (slotM agM (slot_lt j)) (yF m (src c j.val))

instance kpay_storable (c : Dev nD) (k : Fin 6) (j : Fin 15) : BI.Storable (upEmb : UEmb _ 𝕄) (kpay m c k j) := by
  fin_cases k <;> (dsimp only [kpay]; infer_instance)

def cpay (c : Dev nD) : Option Cell → Fin 15 → sProp 𝕄
  | some (.inl _), d => slots (F := F) (peer c d) d
  | some (.inr (k, j)), _ => kpay m c k j
  | none, _ => iprop(emp)
instance cpay_storable (c : Dev nD) (k : Option Cell) (d : Fin 15) : BI.Storable (upEmb : UEmb _ 𝕄) (cpay m c k d) := by
  match k with
  | some (.inl _) => show BI.Storable upEmb (slots (F := F) (peer c d) d); unfold slots; infer_instance
  | some (.inr (k, j)) => exact kpay_storable m c k j
  | none => show BI.Storable upEmb iprop(emp); infer_instance

def cduties : Option Cell → Finset (Fin 15)
  | some (.inl _) => Finset.univ
  | some (.inr _) => {0}
  | none => ∅
def camt : Option Cell → ℕ
  | some (.inl _) => 1
  | some (.inr (k, _)) => NK k
  | none => 1
theorem camt_pos (k : Option Cell) : 0 < camt k := by
  match k with
  | some (.inl _) => exact Nat.one_pos
  | some (.inr (k, j)) => exact NK_pos k
  | none => exact Nat.one_pos

/-- One round: a barrier cell has fifteen duties of one unit, one a peer; any other cell one duty of a block's units. -/
def rd : Rounds.Schedule (GSem nD τ sig) (Fin 15) 𝕄 where
  duties g r := if r = 0 ∧ g.1.2 = .tc then cduties (dec g.2) else ∅
  unitless _ := False
  amount g _ _ := camt (dec g.2)
  payload g _ d := cpay m g.1.1 (dec g.2) d
  amount_pos g _ _ _ := camt_pos _

instance rd_payload_storable (g : GSem nD τ sig) (r : ℕ) (d : Fin 15) : BI.Storable (upEmb : UEmb _ 𝕄) ((rd m).payload g r d) :=
  cpay_storable m g.1.1 (dec g.2) d

section Sched
variable (c : Dev nD)

theorem duties_cell (k : Cell) : (rd m).duties (kcell c k) 0 = cduties (some k) := by
  dsimp only [rd]; rw [if_pos ⟨rfl, rfl⟩, dec_csem]
theorem duties_later (g : GSem nD τ sig) : ∀ r, 1 ≤ r → (rd m).duties g r = ∅ :=
  fun r hr => by dsimp only [rd]; rw [if_neg fun h => by omega]
theorem amount_cell (k : Cell) (d : Fin 15) : (rd m).amount (kcell c k) 0 d = camt (some k) := by dsimp only [rd]; rw [dec_csem]
theorem payload_cell (k : Cell) (d : Fin 15) : (rd m).payload (kcell c k) 0 d = cpay m c (some k) d := by dsimp only [rd]; rw [dec_csem]

theorem expect_bar : (rd m).expect (bar c) 0 = 15 := by
  unfold Schedule.expect Schedule.amountOf
  rw [duties_cell, Finset.sum_congr rfl fun d _ => amount_cell m c (.inl ()) d]; rfl
theorem expect_k (k : Fin 6) (j : Fin 15) : (rd m).expect (kc c k j) 0 = NK k := by
  unfold Schedule.expect Schedule.amountOf
  rw [duties_cell, Finset.sum_congr rfl fun d _ => amount_cell m c (.inr (k, j)) d]
  show ∑ _x ∈ {(0 : Fin 15)}, NK k = NK k
  rw [Finset.sum_singleton]

theorem rest_bar : bigSep ((rd m).duties (bar c) 0 \ ∅) (fun d => (rd m).payload (bar c) 0 d)
    = bigSep Finset.univ fun d => slots (F := F) (peer c d) d := by
  rw [Finset.sdiff_empty, duties_cell]
  exact congrArg (bigSep Finset.univ) (funext fun d => payload_cell m c (.inl ()) d)
theorem rest_k (k : Fin 6) (j : Fin 15) : bigSep ((rd m).duties (kc c k j) 0 \ ∅) (fun d => (rd m).payload (kc c k j) 0 d) = kpay m c k j := by
  rw [Finset.sdiff_empty, duties_cell]
  show bigSep {(0 : Fin 15)} _ = _
  rw [bigSep_singleton, payload_cell]; rfl

end Sched

/-! ## What a device owes; the levels -/

/-- What repetitions `n`, `n + 1`, … owe. -/
def owedFrom (t : Fin 15 → CellTallies nD τ sig Unit) (n : ℕ) : CellTallies nD τ sig Unit :=
  ∑ i ∈ Finset.univ.filter (fun i : Fin 15 => n ≤ i.val), t i

theorem owedFrom_step (t : Fin 15 → CellTallies nD τ sig Unit) (i : Fin 15) : owedFrom t i.val = owedFrom t (i.val + 1) + t i := by
  unfold owedFrom
  have h : Finset.univ.filter (fun k : Fin 15 => i.val ≤ k.val) = insert i (Finset.univ.filter (fun k : Fin 15 => i.val + 1 ≤ k.val)) := by
    ext k; simp only [Finset.mem_filter, Finset.mem_univ, true_and, Finset.mem_insert, Fin.ext_iff]; omega
  rw [h, Finset.sum_insert (by simp), add_comm]
theorem owedFrom_end (t : Fin 15 → CellTallies nD τ sig Unit) : owedFrom t 15 = 0 := by
  unfold owedFrom
  rw [Finset.filter_false_of_mem (fun k _ => by have := k.isLt; omega), Finset.sum_empty]

def tB (c : Dev nD) (j : Fin 15) : CellTallies nD τ sig Unit := tallyAt (bar (peer c j)) () 1
def tO (c : Dev nD) (j : Fin 15) : CellTallies nD τ sig Unit := tallyAt (kc (peer c j) 1 j) () NO
def tL (c : Dev nD) (j : Fin 15) : CellTallies nD τ sig Unit := tallyAt (kc (peer c j) 3 j) () NL
def tG (c : Dev nD) (j : Fin 15) : CellTallies nD τ sig Unit := tallyAt (kc (peer c j) 5 j) () NO
def tOL (c : Dev nD) (j : Fin 15) : CellTallies nD τ sig Unit := tL c j + tO c j

/-- Owed at the start; after the signals; after the first exchange's sends. -/
def O₂ (c : Dev nD) : CellTallies nD τ sig Unit := owedFrom (tG c) 0
def O₁ (c : Dev nD) : CellTallies nD τ sig Unit := O₂ c + owedFrom (tOL c) 0
def O₀ (c : Dev nD) : CellTallies nD τ sig Unit := O₁ c + owedFrom (tB c) 0

def L (g : GSem nD τ sig) : Finset Unit := if g.1.2 = .tc then {()} else ∅
/-- Barrier cells at 1, landings of the first exchange at 2, of the second at 3, everything else at 0. -/
def clv : Option Cell → ℕ
  | some (.inl _) => 1
  | some (.inr (k, _)) => if k = 1 ∨ k = 3 then 2 else if k = 5 then 3 else 0
  | none => 0
def lv (g : GSem nD τ sig) (_ : Unit) : ℕ := clv (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) : lv (kcell c k) () = clv (some k) := by unfold lv; rw [dec_csem]

/-- Everything owed lies on device cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with hz | hz
  · exact h' g u (by omega)
  · exact h g u hz
theorem Above.tally {n : ℕ} (c : Dev nD) (k : Cell) (v : ℕ) (h : n < clv (some k)) : Above n (tallyAt (kcell c k) () v) := fun g u hp => by
  rw [tallyAt_apply] at hp
  by_cases hg : g = kcell c k ∧ u = ()
  · rw [hg.1]; exact ⟨rfl, by rw [lv_cell]; exact h⟩
  · rw [if_neg hg] at hp; exact absurd hp (Nat.lt_irrefl 0)
theorem Above.owedFrom {n : ℕ} {t : Fin 15 → CellTallies nD τ sig Unit} (h : ∀ i, Above n (t i)) (k : ℕ) : Above n (owedFrom t k) := by
  unfold Body.owedFrom
  refine Finset.sum_induction t (Above n) (fun _ _ => Above.add) (Above.zero n) fun i _ => h i
theorem Above.mono {n n' : ℕ} {O : CellTallies nD τ sig Unit} (hn : n ≤ n') (h : Above n' O) : Above n O := fun g u hp =>
  ⟨(h g u hp).1, Nat.lt_of_le_of_lt hn (h g u hp).2⟩

theorem above_O₂ (c : Dev nD) : Above 2 (O₂ c) := Above.owedFrom (fun i => Above.tally _ _ _ (by show 2 < 3; decide)) 0
theorem above_O₁ (c : Dev nD) : Above 1 (O₁ c) :=
  (above_O₂ c).mono (by decide) |>.add (Above.owedFrom (fun i => (Above.tally _ _ _ (by show 1 < 2; decide)).add (Above.tally _ _ _ (by show 1 < 2; decide))) 0)
theorem above_O₀ (c : Dev nD) : Above 0 (O₀ c) :=
  (above_O₁ c).mono (by decide) |>.add (Above.owedFrom (fun i => Above.tally _ _ _ (by show 0 < 1; decide)) 0)

omit [FloatOps F] [Named F] in
/-- A device may wait for a cell below everything it owes. -/
theorem mayWait {n : ℕ} (c : Dev nD) (sm : SemLoc sig) (hsm : clv (dec sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.KernelIdeal.Body

end
-- ==== Proof.Mem.lean ====
/- What the buffers' row blocks, slots and column blocks are, element by element: which elements each covers, what a
   load of one reads, what a store into one leaves. -/
module

public import proofs.«01_k».proof.Proof.Proto
public import Idealize.ShloMosaic.Lib.ValueLayout

@[expose] public section

noncomputable section

namespace Cert.KernelIdeal.Body

open Cert.KernelIdeal Cert.KernelIdeal.Gen

open Idealize.ShloMosaic
open Idealize.ShloMosaic.TcCoe
open Idealize.ShloMosaic.ValueIdx

variable {F : FTy → Type} [FloatOps F] [Named F]

/-! ## Elements of a row block and of a slot -/

theorem mem_acc (d : Dev nD) (i : S512x1024.Idx) : i ∈ (accB d).view.set ↔ (i 0).val / 32 = d.val := by
  have h : (accB d).view.set = (Rect.unit (s := S512x1024) ![32 * d.val, 0] S32x1024.size (blk_inb2 d)).set := View.set_slice_whole _ _
  rw [h, Rect.mem_set_unit, Fin.forall_fin_two]
  have h1 : (i 1).val < 1024 := (i 1).isLt
  show ((32 * d.val ≤ (i 0).val ∧ (i 0).val < 32 * d.val + 32) ∧ (0 ≤ (i 1).val ∧ (i 1).val < 0 + 1024)) ↔ _
  omega
theorem mem_l (d : Dev nD) (i : S512x8.Idx) : i ∈ (lB d).view.set ↔ (i 0).val / 32 = d.val := by
  have h : (lB d).view.set = (Rect.unit (s := S512x8) ![32 * d.val, 0] S32x8.size (lblk_inb2 d)).set := View.set_slice_whole _ _
  rw [h, Rect.mem_set_unit, Fin.forall_fin_two]
  have h1 : (i 1).val < 8 := (i 1).isLt
  show ((32 * d.val ≤ (i 0).val ∧ (i 0).val < 32 * d.val + 32) ∧ (0 ≤ (i 1).val ∧ (i 1).val < 0 + 8)) ↔ _
  omega

theorem mem_slot3 {s : ℕ} (hs : s < 16) (i : S16x32x1024.Idx) :
    i ∈ (Rect.unit (s := S16x32x1024) ![s, 0, 0] S1x32x1024.size (slot_inb hs)).set ↔ (i 0).val = s := by
  rw [Rect.mem_set_unit]
  have h1 : (i 1).val < 32 := (i 1).isLt
  have h2 : (i 2).val < 1024 := (i 2).isLt
  constructor
  · intro h
    have h0 : s ≤ (i 0).val ∧ (i 0).val < s + 1 := h 0
    omega
  · intro h a
    fin_cases a
    · show s ≤ (i 0).val ∧ (i 0).val < s + 1; omega
    · show 0 ≤ (i 1).val ∧ (i 1).val < 0 + 32; omega
    · show 0 ≤ (i 2).val ∧ (i 2).val < 0 + 1024; omega
theorem mem_rs {s : ℕ} (hs : s < 16) (i : S16x32x1024.Idx) : i ∈ (slotM rsM hs).view.set ↔ (i 0).val = s := by
  have h : (slotM rsM hs).view.set = (Rect.unit (s := S16x32x1024) ![s, 0, 0] S1x32x1024.size (slot_inb hs)).set :=
    (View.set_reshape _ _).trans (View.set_slice_whole _ _)
  rw [h]; exact mem_slot3 hs i
theorem mem_ag {s : ℕ} (hs : s < 16) (i : S16x32x1024.Idx) : i ∈ (slotM agM hs).view.set ↔ (i 0).val = s := by
  have h : (slotM agM hs).view.set = (Rect.unit (s := S16x32x1024) ![s, 0, 0] S1x32x1024.size (slot_inb hs)).set :=
    (View.set_reshape _ _).trans (View.set_slice_whole _ _)
  rw [h]; exact mem_slot3 hs i
theorem mem_rl {s : ℕ} (hs : s < 16) (i : S16x32x8.Idx) : i ∈ (lslotM hs).view.set ↔ (i 0).val = s := by
  have h : (lslotM hs).view.set = (Rect.unit (s := S16x32x8) ![s, 0, 0] S1x32x8.size (lslot_inb hs)).set :=
    (View.set_reshape _ _).trans (View.set_slice_whole _ _)
  rw [h, Rect.mem_set_unit]
  have h1 : (i 1).val < 32 := (i 1).isLt
  have h2 : (i 2).val < 8 := (i 2).isLt
  constructor
  · intro h
    have h0 : s ≤ (i 0).val ∧ (i 0).val < s + 1 := h 0
    omega
  · intro h a
    fin_cases a
    · show s ≤ (i 0).val ∧ (i 0).val < s + 1; omega
    · show 0 ≤ (i 1).val ∧ (i 1).val < 0 + 32; omega
    · show 0 ≤ (i 2).val ∧ (i 2).val < 0 + 8; omega

/-- The elements of the row blocks and slots, as sets of the buffers' indices. -/
def accI (d : Dev nD) : Finset S512x1024.Idx := (accB d).view.set
def lI (d : Dev nD) : Finset S512x8.Idx := (lB d).view.set
def rsI (s : Fin 16) : Finset S16x32x1024.Idx := (slotM rsM s.isLt).view.set
def agI (s : Fin 16) : Finset S16x32x1024.Idx := (slotM agM s.isLt).view.set
def rlI (s : Fin 16) : Finset S16x32x8.Idx := (lslotM s.isLt).view.set

/-- Different slots, and different row blocks, share no element; together they are the buffer. -/
theorem rs_disj (s s' : Fin 16) (h : s ≠ s') : Disjoint (rsI s) (rsI s') :=
  Finset.disjoint_left.2 fun i hi hi' => h (Fin.ext (((mem_rs s.isLt i).1 hi).symm.trans ((mem_rs s'.isLt i).1 hi')))
theorem ag_disj (s s' : Fin 16) (h : s ≠ s') : Disjoint (agI s) (agI s') :=
  Finset.disjoint_left.2 fun i hi hi' => h (Fin.ext (((mem_ag s.isLt i).1 hi).symm.trans ((mem_ag s'.isLt i).1 hi')))
theorem rl_disj (s s' : Fin 16) (h : s ≠ s') : Disjoint (rlI s) (rlI s') :=
  Finset.disjoint_left.2 fun i hi hi' => h (Fin.ext (((mem_rl s.isLt i).1 hi).symm.trans ((mem_rl s'.isLt i).1 hi')))
theorem acc_disj (d d' : Dev nD) (h : d ≠ d') : Disjoint (accI d) (accI d') :=
  Finset.disjoint_left.2 fun i hi hi' => h (Fin.ext (((mem_acc d i).1 hi).symm.trans ((mem_acc d' i).1 hi')))
theorem l_disj (d d' : Dev nD) (h : d ≠ d') : Disjoint (lI d) (lI d') :=
  Finset.disjoint_left.2 fun i hi hi' => h (Fin.ext (((mem_l d i).1 hi).symm.trans ((mem_l d' i).1 hi')))
theorem rs_cover : (Finset.univ.biUnion fun s : Fin 16 => rsI s) = Finset.univ :=
  Finset.eq_univ_of_forall fun (i : S16x32x1024.Idx) => Finset.mem_biUnion.2 ⟨i 0, Finset.mem_univ _, (mem_rs _ i).2 rfl⟩
theorem ag_cover : (Finset.univ.biUnion fun s : Fin 16 => agI s) = Finset.univ :=
  Finset.eq_univ_of_forall fun (i : S16x32x1024.Idx) => Finset.mem_biUnion.2 ⟨i 0, Finset.mem_univ _, (mem_ag _ i).2 rfl⟩
theorem rl_cover : (Finset.univ.biUnion fun s : Fin 16 => rlI s) = Finset.univ :=
  Finset.eq_univ_of_forall fun (i : S16x32x8.Idx) => Finset.mem_biUnion.2 ⟨i 0, Finset.mem_univ _, (mem_rl _ i).2 rfl⟩
theorem acc_cover : (Finset.univ.biUnion fun d : Dev nD => accI d) = Finset.univ :=
  Finset.eq_univ_of_forall fun (i : S512x1024.Idx) => Finset.mem_biUnion.2 ⟨rB (i 0), Finset.mem_univ _, (mem_acc _ i).2 rfl⟩
theorem l_cover : (Finset.univ.biUnion fun d : Dev nD => lI d) = Finset.univ :=
  Finset.eq_univ_of_forall fun (i : S512x8.Idx) => Finset.mem_biUnion.2 ⟨rB (i 0), Finset.mem_univ _, (mem_l _ i).2 rfl⟩

/-! ## The printed offsets -/

theorem off1_eq (c : Dev nD) (j : Fin 15) : k0_off1 c (BitVec.ofNat 32 (1 + j.val)) = ![32 * (peer c j).val, 0] := by
  rw [k0_off1_eq]; congr 2
theorem off2_eq (c : Dev nD) (j : Fin 15) : k0_off2 c (BitVec.ofNat 32 (1 + j.val)) = ![32 * (peer c j).val, 0] := by
  rw [k0_off2_eq]; congr 2
theorem off6_eq (c : Dev nD) (j : Fin 15) : k0_off6 c (BitVec.ofNat 32 (1 + j.val)) = ![32 * (src c j.val).val, 0] := by
  rw [k0_off6_eq]; rfl

/-! ## Loads and stores of windows -/

/-- A load of a window of a whole buffer. -/
theorem load_win (b : Ref sig .tc) {off off' size : Fin b.ty.shape.rank → ℕ} (inb : ∀ a, off a + size a ≤ b.ty.shape.size a)
    (h : off = off') (inb' : ∀ a, off' a + size a ≤ b.ty.shape.size a) (f : b.ty.Contents (Elt F)) :
    (Memref.whole b : Memref sig .tc b.space b.ty.shape b.ty.elt).view.readAt (Elt F) (Rect.unit off size inb).toLoadRect f = VecWindow.window f off' size inb' := by
  subst h; rfl
/-- A store into a window of a whole buffer. -/
theorem store_win (b : Ref sig .tc) {off off' size : Fin b.ty.shape.rank → ℕ} (inb : ∀ a, off a + size a ≤ b.ty.shape.size a)
    (h : off = off') (f : b.ty.Contents (Elt F)) (w : (Rect.unit off size inb).shape.Idx → Elt F b.ty.elt) :
    ((Memref.whole b : Memref sig .tc b.space b.ty.shape b.ty.elt).access (Rect.unit off size inb)).write (Elt F) f w Finset.univ
      = VecWindow.put f off' size w :=
  View.read_writes_cons_put (View.whole b) f inb w [] h

/-! ## Reads of row blocks and slots -/

theorem read_acc (d : Dev nD) (f : Vec F S512x1024 .f32) : (accB d).view.read (Elt F) f = rowsOf d f := by
  funext y
  show f ((Rect.unit (s := S512x1024) ![32 * d.val, 0] S32x1024.size (blk_inb2 d)).emb y) = f _
  refine congrArg f (funext fun a => Fin.ext ?_)
  fin_cases a
  · show 32 * d.val + 1 * (y 0).val = 32 * d.val + (y 0).val; omega
  · show 0 + 1 * (y 1).val = (y 1).val; omega
theorem read_l (d : Dev nD) (f : Vec F S512x8 .f32) : (lB d).view.read (Elt F) f = lrowsOf d f := by
  funext y
  show f ((Rect.unit (s := S512x8) ![32 * d.val, 0] S32x8.size (lblk_inb2 d)).emb y) = f _
  refine congrArg f (funext fun a => Fin.ext ?_)
  fin_cases a
  · show 32 * d.val + 1 * (y 0).val = 32 * d.val + (y 0).val; omega
  · show 0 + 1 * (y 1).val = (y 1).val; omega

theorem one_lead {n0 n1 : ℕ} (y : (⟨3, ![1, n0, n1]⟩ : Shape).Idx) :
    ix3 (n0 := 1) (n1 := n0) (n2 := n1) 0 (y 1) (y 2) = y := by
  funext a
  fin_cases a
  · exact Subsingleton.elim (α := Fin 1) _ _
  · rfl
  · rfl

theorem load_rs {s : ℕ} (hs : s < 16) (f : Vec F S16x32x1024 .f32) (x : Vec F S32x1024 .f32)
    (h : (slotM rsM hs).view.read (Elt F) f = x) :
    (rsM : Memref sig .tc .vmem S16x32x1024 .f32).view.readAt (Elt F) (Rect.unit (s := S16x32x1024) ![s, 0, 0] S1x32x1024.size (slot_inb hs)).toLoadRect f = lead x := by
  subst h
  funext y
  show f ((Rect.unit (s := S16x32x1024) ![s, 0, 0] S1x32x1024.size (slot_inb hs)).emb y)
    = f ((Rect.unit (s := S16x32x1024) ![s, 0, 0] S1x32x1024.size (slot_inb hs)).emb (Shape.reshapeEquiv _ (ix2 (n0 := 32) (n1 := 1024) (y 1) (y 2))))
  exact congrArg (fun z => f ((Rect.unit (s := S16x32x1024) ![s, 0, 0] S1x32x1024.size (slot_inb hs)).emb z))
    ((reshapeEquiv_ix2_1ab (a := 32) (b := 1024) _ _ _).trans (one_lead (n0 := 32) (n1 := 1024) y)).symm
theorem load_ag {s : ℕ} (hs : s < 16) (f : Vec F S16x32x1024 .f32) (x : Vec F S32x1024 .f32)
    (h : (slotM agM hs).view.read (Elt F) f = x) :
    (agM : Memref sig .tc .vmem S16x32x1024 .f32).view.readAt (Elt F) (Rect.unit (s := S16x32x1024) ![s, 0, 0] S1x32x1024.size (slot_inb hs)).toLoadRect f = lead x :=
  load_rs hs f x h
theorem load_rl {s : ℕ} (hs : s < 16) (f : Vec F S16x32x8 .f32) (x : Vec F S32x8 .f32)
    (h : (lslotM hs).view.read (Elt F) f = x) :
    (rlM : Memref sig .tc .vmem S16x32x8 .f32).view.readAt (Elt F) (Rect.unit (s := S16x32x8) ![s, 0, 0] S1x32x8.size (lslot_inb hs)).toLoadRect f = llead x := by
  subst h
  funext y
  show f ((Rect.unit (s := S16x32x8) ![s, 0, 0] S1x32x8.size (lslot_inb hs)).emb y)
    = f ((Rect.unit (s := S16x32x8) ![s, 0, 0] S1x32x8.size (lslot_inb hs)).emb (Shape.reshapeEquiv _ (ix2 (n0 := 32) (n1 := 8) (y 1) (y 2))))
  exact congrArg (fun z => f ((Rect.unit (s := S16x32x8) ![s, 0, 0] S1x32x8.size (lslot_inb hs)).emb z))
    ((reshapeEquiv_ix2_1ab (a := 32) (b := 8) _ _ _).trans (one_lead (n0 := 32) (n1 := 8) y)).symm

theorem load_acc (c : Dev nD) {off : Fin 2 → ℕ} (inb : ∀ a, off a + S32x1024.size a ≤ S512x1024.size a) (h : off = ![32 * c.val, 0]) (f : Vec F S512x1024 .f32) :
    (accM : Memref sig .tc .vmem S512x1024 .f32).view.readAt (Elt F) (Rect.unit (s := S512x1024) off S32x1024.size inb).toLoadRect f = rowsOf c f := by
  subst h; exact read_acc c f
theorem load_l (c : Dev nD) {off : Fin 2 → ℕ} (inb : ∀ a, off a + S32x8.size a ≤ S512x8.size a) (h : off = ![32 * c.val, 0]) (f : Vec F S512x8 .f32) :
    (lM : Memref sig .tc .vmem S512x8 .f32).view.readAt (Elt F) (Rect.unit (s := S512x8) off S32x8.size inb).toLoadRect f = lrowsOf c f := by
  subst h; exact read_l c f

/-! ## Stores of column blocks and row blocks, element by element -/

/-- A head's columns stored: elements of that head hold the payload, the others what was there. -/
theorem put_cols {e : EltTy} (h : Fin 8) (f : Vec F S512x1024 e) (w : Vec F S512x128 e) (i : S512x1024.Idx) :
    VecWindow.put (s := S512x1024) f ![0, 128 * h.val] S512x128.size w i
      = if cH (i 1) = h then w (ix2 (n0 := 512) (n1 := 128) (i 0) (cC (i 1))) else f i := by
  have h0 : (i 0).val < 512 := (i 0).isLt
  have h1 : (i 1).val < 1024 := (i 1).isLt
  unfold VecWindow.put
  by_cases hc : cH (i 1) = h
  · have hv : (i 1).val / 128 = h.val := congrArg Fin.val hc
    have hm : ∀ a, (![0, 128 * h.val] : Fin 2 → ℕ) a ≤ (i a).val ∧ (i a).val < (![0, 128 * h.val] : Fin 2 → ℕ) a + S512x128.size a := by
      rw [Fin.forall_fin_two]
      show (0 ≤ (i 0).val ∧ (i 0).val < 0 + 512) ∧ (128 * h.val ≤ (i 1).val ∧ (i 1).val < 128 * h.val + 128)
      omega
    rw [dif_pos hm, if_pos hc]
    refine congrArg w (funext fun a => Fin.ext ?_)
    fin_cases a
    · show (i 0).val - 0 = (i 0).val; omega
    · show (i 1).val - 128 * h.val = (i 1).val % 128; omega
  · have hv : (i 1).val / 128 ≠ h.val := fun hv => hc (Fin.ext hv)
    have hm : ¬ ∀ a, (![0, 128 * h.val] : Fin 2 → ℕ) a ≤ (i a).val ∧ (i a).val < (![0, 128 * h.val] : Fin 2 → ℕ) a + S512x128.size a := by
      rw [Fin.forall_fin_two]
      show ¬ ((0 ≤ (i 0).val ∧ (i 0).val < 0 + 512) ∧ (128 * h.val ≤ (i 1).val ∧ (i 1).val < 128 * h.val + 128))
      omega
    rw [dif_neg hm, if_neg hc]
theorem put_fcols (h : Fin 8) (f : Vec F S32x1024 .f32) (w : Vec F S32x128 .f32) (i : S32x1024.Idx) :
    VecWindow.put (s := S32x1024) f ![0, 128 * h.val] S32x128.size w i
      = if cH (i 1) = h then w (ix2 (n0 := 32) (n1 := 128) (i 0) (cC (i 1))) else f i := by
  have h0 : (i 0).val < 32 := (i 0).isLt
  have h1 : (i 1).val < 1024 := (i 1).isLt
  unfold VecWindow.put
  by_cases hc : cH (i 1) = h
  · have hv : (i 1).val / 128 = h.val := congrArg Fin.val hc
    have hm : ∀ a, (![0, 128 * h.val] : Fin 2 → ℕ) a ≤ (i a).val ∧ (i a).val < (![0, 128 * h.val] : Fin 2 → ℕ) a + S32x128.size a := by
      rw [Fin.forall_fin_two]
      show (0 ≤ (i 0).val ∧ (i 0).val < 0 + 32) ∧ (128 * h.val ≤ (i 1).val ∧ (i 1).val < 128 * h.val + 128)
      omega
    rw [dif_pos hm, if_pos hc]
    refine congrArg w (funext fun a => Fin.ext ?_)
    fin_cases a
    · show (i 0).val - 0 = (i 0).val; omega
    · show (i 1).val - 128 * h.val = (i 1).val % 128; omega
  · have hv : (i 1).val / 128 ≠ h.val := fun hv => hc (Fin.ext hv)
    have hm : ¬ ∀ a, (![0, 128 * h.val] : Fin 2 → ℕ) a ≤ (i a).val ∧ (i a).val < (![0, 128 * h.val] : Fin 2 → ℕ) a + S32x128.size a := by
      rw [Fin.forall_fin_two]
      show ¬ ((0 ≤ (i 0).val ∧ (i 0).val < 0 + 32) ∧ (128 * h.val ≤ (i 1).val ∧ (i 1).val < 128 * h.val + 128))
      omega
    rw [dif_neg hm, if_neg hc]
theorem put_lcol (h : Fin 8) (f : Vec F S512x8 .f32) (w : Vec F S512x1 .f32) (i : S512x8.Idx) :
    VecWindow.put (s := S512x8) f ![0, h.val] S512x1.size w i = if (i 1).val = h.val then w (ix2 (n0 := 512) (n1 := 1) (i 0) 0) else f i := by
  have h0 : (i 0).val < 512 := (i 0).isLt
  unfold VecWindow.put
  by_cases hc : (i 1).val = h.val
  · have hv : (i 1).val = h.val := hc
    have hm : ∀ a, (![0, h.val] : Fin 2 → ℕ) a ≤ (i a).val ∧ (i a).val < (![0, h.val] : Fin 2 → ℕ) a + S512x1.size a := by
      rw [Fin.forall_fin_two]
      show (0 ≤ (i 0).val ∧ (i 0).val < 0 + 512) ∧ (h.val ≤ (i 1).val ∧ (i 1).val < h.val + 1)
      omega
    rw [dif_pos hm, if_pos hc]
    refine congrArg w (funext fun a => Fin.ext ?_)
    fin_cases a
    · show (i 0).val - 0 = (i 0).val; omega
    · show (i 1).val - h.val = 0; omega
  · have hv : (i 1).val ≠ h.val := hc
    have hm : ¬ ∀ a, (![0, h.val] : Fin 2 → ℕ) a ≤ (i a).val ∧ (i a).val < (![0, h.val] : Fin 2 → ℕ) a + S512x1.size a := by
      rw [Fin.forall_fin_two]
      show ¬ ((0 ≤ (i 0).val ∧ (i 0).val < 0 + 512) ∧ (h.val ≤ (i 1).val ∧ (i 1).val < h.val + 1))
      omega
    rw [dif_neg hm, if_neg hc]
theorem put_rows (d : Dev nD) (f : Vec F S512x1024 .f32) (w : Vec F S32x1024 .f32) (i : S512x1024.Idx) :
    VecWindow.put (s := S512x1024) f ![32 * d.val, 0] S32x1024.size w i
      = if rB (i 0) = d then w (ix2 (n0 := 32) (n1 := 1024) (rR (i 0)) (i 1)) else f i := by
  have h0 : (i 0).val < 512 := (i 0).isLt
  have h1 : (i 1).val < 1024 := (i 1).isLt
  unfold VecWindow.put
  by_cases hc : rB (i 0) = d
  · have hv : (i 0).val / 32 = d.val := congrArg Fin.val hc
    have hm : ∀ a, (![32 * d.val, 0] : Fin 2 → ℕ) a ≤ (i a).val ∧ (i a).val < (![32 * d.val, 0] : Fin 2 → ℕ) a + S32x1024.size a := by
      rw [Fin.forall_fin_two]
      show (32 * d.val ≤ (i 0).val ∧ (i 0).val < 32 * d.val + 32) ∧ (0 ≤ (i 1).val ∧ (i 1).val < 0 + 1024)
      omega
    rw [dif_pos hm, if_pos hc]
    refine congrArg w (funext fun a => Fin.ext ?_)
    fin_cases a
    · show (i 0).val - 32 * d.val = (i 0).val % 32; omega
    · show (i 1).val - 0 = (i 1).val; omega
  · have hv : (i 0).val / 32 ≠ d.val := fun hv => hc (Fin.ext hv)
    have hm : ¬ ∀ a, (![32 * d.val, 0] : Fin 2 → ℕ) a ≤ (i a).val ∧ (i a).val < (![32 * d.val, 0] : Fin 2 → ℕ) a + S32x1024.size a := by
      rw [Fin.forall_fin_two]
      show ¬ ((32 * d.val ≤ (i 0).val ∧ (i 0).val < 32 * d.val + 32) ∧ (0 ≤ (i 1).val ∧ (i 1).val < 0 + 1024))
      omega
    rw [dif_neg hm, if_neg hc]

/-! ## Recasts of a block to its own shape -/

theorem pay121_eq (x : Vec F S32x1024 .f32) : k0_pay121 x = x := by
  funext y
  show x (Shape.reshapeEquiv _ y) = x y
  rw [Shape.reshapeEquiv_self]
theorem pay122_eq (x : Vec F S32x1024 .f32) : k0_pay122 (lead x) = x := by
  funext y
  show lead x (Shape.reshapeEquiv _ y) = x y
  have hy : ix2 (n0 := 32) (n1 := 1024) (y 0) (y 1) = y := (eq_ix2 (n0 := 32) (n1 := 1024) y).symm
  rw [← hy]
  exact congrArg (lead x) (reshapeEquiv_ix2_1ab (a := 32) (b := 1024) _ (y 0) (y 1))

end Cert.KernelIdeal.Body

end
-- ==== Proof.Steps.lean ====
/- The rules the exchange is run by: repetition, one signal, one wait, one send, and the phases they make up. -/
module

public import proofs.«01_k».proof.Proof.Mem

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The run of `p` on device `c`, to the postcondition `Q`. -/
abbrev Wp {α : Type} (c : Dev nD) (p : P F α) (Q : α → sProp 𝕄) : sProp 𝕄 :=
  wp frame (wpE (defs₀ (F := F)) 𝒱₀ (c : Thread nD τ) none) Set.univ p Q

/-! ## Repetition -/

theorem bigSep_succ {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]; rfl

/-- A repetition whose every step takes the state from `I i` to `I (i + 1)`, consuming `R i` and leaving `S i`. -/
theorem wp_loop {α : Type} (c : Dev nD) (G : sProp 𝕄) [BI.Persistent G] : ∀ (n : ℕ) (f : Fin n → α → P F α) (I : ℕ → α → sProp 𝕄)
    (R S : Fin n → sProp 𝕄) (_ : ∀ (i : Fin n) a, iprop(G ∗ I i.val a ∗ R i) ⊢ Wp c (f i a) (fun b => iprop(I (i.val + 1) b ∗ S i))) (a : α),
    iprop(G ∗ I 0 a ∗ bigSep Finset.univ R) ⊢ Wp c (loop n f a) (fun b => iprop(I n b ∗ bigSep Finset.univ S))
  | 0, f, I, R, S, h, a => by
    show _ ⊢ wp _ _ _ (.ret a) _
    rw [wp_ret, show R = S from funext fun i => i.elim0]
    iintro ⟨-, HI, HR⟩; imodintro
    isplitl [HI]; · iexact HI
    iexact HR
  | n + 1, f, I, R, S, h, a => by
    show _ ⊢ wp _ _ _ ((f 0 a) >>= fun b => loop n (fun i => f i.succ) b) _
    rw [wp_bind, bigSep_succ R]
    iintro ⟨#HG, HI, HR0, HR⟩
    have h0 : iprop(G ∗ I 0 a ∗ R 0) ⊢ Wp c (f 0 a) (fun b => iprop(I 1 b ∗ S 0)) := h 0 a
    ihave H0 := h0 $$ [HI HR0]
    · isplitr; · iexact HG
      isplitl [HI]; · iexact HI
      iexact HR0
    iapply (wp_wand _ _ _) $$ H0
    iintro %b ⟨HI, HS⟩
    have h1 : iprop(G ∗ I 1 b ∗ bigSep Finset.univ fun i : Fin n => R i.succ)
        ⊢ Wp c (loop n (fun i => f i.succ) b) (fun b => iprop(I (n + 1) b ∗ bigSep Finset.univ fun i : Fin n => S i.succ)) :=
      wp_loop c G n (fun i => f i.succ) (fun k => I (k + 1)) (fun i => R i.succ) (fun i => S i.succ) (fun i a => h i.succ a) b
    ihave H1 := h1 $$ [HI HR]
    · isplitr; · iexact HG
      isplitl [HI]; · iexact HI
      iexact HR
    iapply (wp_wand _ _ _) $$ H1
    iintro %b' ⟨HI, HS'⟩
    isplitl [HI]; · iexact HI
    rw [bigSep_succ S]
    isplitl [HS] <;> iassumption

/-! ## What every device knows -/

variable (K : Dev nD × Cell → ℕ)

def recInv : sProp 𝕄 := bigSep Finset.univ fun ck : Dev nD × Cell => cellInv ER (rd m) (K ck) (kcell ck.1 ck.2)
def recReached : sProp 𝕄 := bigSep Finset.univ fun ck : Dev nD × Cell => reached (ER (F := F)) (kcell ck.1 ck.2) 0
/-- Every cell's invariant, that every cell has reached its round, and the levels. -/
def Rec : sProp 𝕄 := iprop(recInv m K ∗ recReached (F := F) ∗ levAts L lv)
instance recInv_persistent : BI.Persistent (recInv m K) := by unfold recInv; infer_instance
instance recReached_persistent : BI.Persistent (recReached (F := F)) := by unfold recReached; infer_instance
instance Rec_persistent : BI.Persistent (Rec m K) := by unfold Rec; infer_instance

theorem inv_at (ck : Dev nD × Cell) :
    (bigSep Finset.univ fun ck : Dev nD × Cell => (cellInv ER (rd m) (K ck) (kcell ck.1 ck.2) : sProp 𝕄)) ⊢ cellInv ER (rd m) (K ck) (kcell ck.1 ck.2) :=
  bigSep_elim (Finset.mem_univ ck)
theorem reached_at (ck : Dev nD × Cell) :
    (bigSep Finset.univ fun ck : Dev nD × Cell => (reached ER (kcell ck.1 ck.2) 0 : sProp 𝕄)) ⊢ reached ER (kcell ck.1 ck.2) 0 :=
  bigSep_elim (Finset.mem_univ ck)
theorem rec_inv (c : Dev nD) (k : Cell) : Rec m K ⊢ cellInv ER (rd m) (K (c, k)) (kcell c k) := by
  unfold Rec recInv
  iintro ⟨H, -, -⟩
  iapply (inv_at m K (c, k)); iexact H
theorem rec_reached (c : Dev nD) (k : Cell) : Rec m K ⊢ reached (ER (F := F)) (kcell c k) 0 := by
  unfold Rec recReached
  iintro ⟨-, H, -⟩
  iapply (reached_at (F := F) (c, k)); iexact H
theorem rec_lev : Rec m K ⊢ (levAts L lv : sProp 𝕄) := by
  unfold Rec; iintro ⟨-, -, H⟩; iexact H

/-- Device `c` owes `O`. -/
def ow (c : Dev nD) (O : CellTallies nD τ sig Unit) : sProp 𝕄 := iprop(∃ W, owes (c : Thread nD τ) O W)

theorem clv_k (k : Fin 6) (j : Fin 15) : clv (dec (.dma (kq k j))) = clv (some (.inr (k, j))) := congrArg clv (dec_csem (.inr (k, j)))
theorem clv_bar : clv (dec (.reg barS)) = 1 := congrArg clv (dec_csem (.inl ()))

set_option maxRecDepth 20000 in
theorem rec_mayWait {n : ℕ} (c : Dev nD) (sm : SemLoc sig) (hsm : clv (dec sm) ≤ n) {O : CellTallies nD τ sig Unit} (hO : Above n O) :
    Rec m K ⊢ MayWait (c : Thread nD τ) sm () O :=
  (rec_lev m K).trans (mayWait c sm hsm hO)

/-! ## One wait -/

/-- The wait on one of the exchange's semaphores: what was sent (or comes back) is the device's, and the semaphore is at zero for good. -/
theorem wait_k (c : Dev nD) (k : Fin 6) (j : Fin 15) {n : ℕ} {O : CellTallies nD τ sig Unit} (hlv : clv (some (.inr (k, j))) ≤ n) (hO : Above n O)
    {q : DmaSem sig} (hq : q = kq k j) {sp sp' : Space} {s s' : Shape} {e e' : EltTy} {srcw : Memref sig .tc sp' s' e'} {dstw : Memref sig .tc sp s e}
    {hsrc : srcw.view.WordExact} {hdst : dstw.view.WordExact} (hN : dstw.view.dmaCredit = NK k)
    {α : Type} {kk : PUnit → P F α} {Q : α → sProp 𝕄} :
    iprop(Rec m K ∗ ow c O ∗ cred (tallyAt (kc c k j) () (NK k)) ∗ atPos (ER (F := F)) (kc c k j) 0 ∅ 0)
      ⊢ iprop((ow c O ∗ semVal (kc c k j) 0 ∗ kpay m c k j -∗ Wp c (kk ⟨⟩) Q) -∗ Wp c (.op (.waitDma2 q srcw dstw hsrc hdst) kk) Q) := by
  subst hq
  have hrest : bigSep ((rd m).duties ((c : Thread nD τ), SemLoc.dma (kq k j)) 0 \ ∅) (fun d => (rd m).payload ((c : Thread nD τ), SemLoc.dma (kq k j)) 0 d)
      = kpay m c k j := rest_k m c k j
  iintro ⟨#HR, Ho, Hc, Hat⟩ Hk
  unfold ow
  icases Ho with ⟨%W, HO⟩
  iapply (Rounds.wp_wait_rest_token 𝒱₀ ER (rd m) (c : Thread nD τ) none (κ := K (c, .inr (k, j)))
      (wpE_waitDma2_eq 𝒱₀ (c : Thread nD τ) none Set.univ) (Set.mem_univ _) () (O := O) (W := W) (R := 0) (m := 0) (T := ∅)
      (by rw [Nat.zero_add, hN]; exact (expect_k m c k j).symm)) $$ [HO Hc Hat]
  · isplitr; · iapply (rec_inv m K c (.inr (k, j))); iexact HR
    isplitl [Hc]; · rw [hN]; iexact Hc
    isplitl [HO]; · iexact HO
    isplitr
    · iapply (rec_mayWait m K c (.dma (kq k j)) (le_of_eq_of_le (clv_k k j) hlv) hO); iexact HR
    iexact Hat
  iintro ⟨HO, Hat, -, Hpay⟩
  ihave Hp := (Entails.of_eq hrest) $$ Hpay
  imod (Rounds.cell_close ER (rd m) (Set.mem_univ (K (c, .inr (k, j)))) (fun h => h) (R := 0 + 1) (duties_later m (kc c k j))) $$ [Hat] with Hz
  · isplitr; · iapply (rec_inv m K c (.inr (k, j))); iexact HR
    iexact Hat
  iapply Hk
  isplitl [HO]; · iexists _; iexact HO
  isplitl [Hz] <;> iassumption

/-! ## One send -/

/-- The send of a block to the peer of repetition `j`. -/
theorem send_k (c : Dev nD) (ks kr : Fin 6) (j : Fin 15) (n' : Dev nD) (hn : n' = peer c j) (O : CellTallies nD τ sig Unit)
    {sp sp' : Space} {s : Shape} {e : EltTy} {src : Memref sig .tc sp s e} {dst : Memref sig .tc sp' s e} {sS sR : SemLoc sig}
    (hS : sS = .dma (kq ks j)) (hR : sR = .dma (kq kr j)) {hsc : dst.view.ref.isScScratch = false}
    {hsrc : src.view.WordExact} {hdst : dst.view.WordExact} {hsem : DmaTarget.Typed sp sR (.remote (Dev.tc n' : Thread nD τ) dst sS hsc)}
    (N : ℕ) (hN : dst.view.amount sR = N) (hks : NK ks = N) (hkr : NK kr = N) {q : PosShare TreeShare}
    {fs : Buf (Elt F) (src.view.loc (c : Thread nD τ))} {fd : Buf (Elt F) (dst.view.loc (peer c j : Thread nD τ))}
    (hpay₁ : (src.view.loc (c : Thread nD τ) ↦[src.view.set]{q} fs) ⊢ kpay m c ks j)
    (hpay₂ : (pts (peer c j) dst (dst.view.write (Elt F) fd (src.view.read (Elt F) fs) Finset.univ)) ⊢ kpay m (peer c j) kr j)
    {α : Type} {kk : PUnit → P F α} {Q : α → sProp 𝕄} :
    iprop(Rec m K ∗ (src.view.loc (c : Thread nD τ) ↦[src.view.set]{q} fs) ∗ pts (peer c j) dst fd
        ∗ ow c (O + tallyAt (kc (peer c j) kr j) () N)
        ∗ dutyTok (ER (F := F)) (kc c ks j) 0 0 ∗ dutyTok (ER (F := F)) (kc (peer c j) kr j) 0 0)
      ⊢ iprop(((ow c O ∗ cred (tallyAt (kc c ks j) () N)) -∗ Wp c (kk ⟨⟩) Q)
          -∗ Wp c (.op (.enqueueDma src (.remote (Dev.tc n' : Thread nD τ) dst sS hsc) sR hsrc hdst hsem) kk) Q) := by
  subst hn hS hR
  iintro ⟨#HR, Hs, Hd, Ho, Ht1, Ht2⟩ Hk
  unfold ow
  icases Ho with ⟨%W, HO⟩
  iapply (Rounds.wp_send_pointsTo 𝒱₀ ER (rd m) (c : Thread nD τ) none (c' := (peer c j : Thread nD τ)) (κ₁ := K (c, .inr (ks, j))) (κ₂ := K (peer c j, .inr (kr, j)))
    (r₁ := 0) (r₂ := 0) (d₁ := 0) (d₂ := 0) (fd := fd) (fs := fs) (q := q)
    (by rw [duties_cell m c (.inr (ks, j))]; exact Finset.mem_singleton_self _)
    (by rw [show (rd m).duties ((peer c j : Thread nD τ), SemLoc.dma (kq kr j)) 0 = {0} from duties_cell m (peer c j) (.inr (kr, j))]; exact Finset.mem_singleton_self _)
    () () N hN ((amount_cell m c (.inr (ks, j)) 0).trans hks) ((amount_cell m (peer c j) (.inr (kr, j)) 0).trans hkr) O rfl (W := W)
    (by rw [payload_cell m c (.inr (ks, j))]; exact hpay₁)
    (hpay₂.trans (Entails.of_eq (payload_cell m (peer c j) (.inr (kr, j)) 0).symm))) $$ [Hs Hd HO Ht1 Ht2]
  · isplitr; · iapply (rec_inv m K c (.inr (ks, j))); iexact HR
    isplitr; · iapply (rec_inv m K (peer c j) (.inr (kr, j))); iexact HR
    isplitl [Hs]; · iexact Hs
    isplitl [Hd]; · iexact Hd
    isplitl [HO]; · iexact HO
    isplitl [Ht1]; · iexact Ht1
    isplitr; · iapply (rec_reached m K c (.inr (ks, j))); iexact HR
    isplitl [Ht2]; · iexact Ht2
    iapply (rec_reached m K (peer c j) (.inr (kr, j))); iexact HR
  iintro ⟨Hc, HO⟩
  iapply Hk
  isplitl [HO]; · iexists _; iexact HO
  iexact Hc

/-! ## The entry barrier -/

theorem signal_step (c : Dev nD) (j : Fin 15) (u : PUnit) :
    iprop(Rec m K ∗ ow (F := F) c (O₁ c + owedFrom (tB c) j.val) ∗ (dutyTok (ER (F := F)) (bar (peer c j)) 0 (Fin.rev j) ∗ slots (F := F) c (Fin.rev j)))
      ⊢ Wp c (signalP c j) (fun _ => iprop(ow c (O₁ c + owedFrom (tB c) (j.val + 1)) ∗ emp)) := by
  unfold signalP
  simp only [semSignalWord, Prog.lift]
  rw [sigDev_eq, owedFrom_step, ← add_assoc]
  have hp : (rd m).payload ((peer c j : Thread nD τ), SemLoc.reg barS) 0 (Fin.rev j) = slots (F := F) c (Fin.rev j) :=
    (payload_cell m (peer c j) (.inl ()) (Fin.rev j)).trans (congrArg (fun d => slots (F := F) d (Fin.rev j)) (peer_rev c j))
  unfold ow
  iintro ⟨#HR, ⟨%W, HO⟩, Ht, Hs⟩
  iapply (Rounds.wp_signal 𝒱₀ ER (rd m) (c : Thread nD τ) none (dst := (peer c j : Thread nD τ)) (κ := K (peer c j, .inl ()))
      (d := Fin.rev j) (r := 0) (by rw [show ((peer c j : Thread nD τ), SemLoc.reg barS) = bar (peer c j) from rfl, duties_cell]; exact Finset.mem_univ _)
      ((amount_cell m (peer c j) (.inl ()) _).trans rfl) () (O₁ c + owedFrom (tB c) (j.val + 1)) (W := W) rfl) $$ [HO Ht Hs]
  · isplitr; · iapply (rec_inv m K (peer c j) (.inl ())); iexact HR
    isplitl [HO]; · iexact HO
    isplitl [Ht]; · iexact Ht
    isplitl [Hs]
    · rw [hp]; iexact Hs
    iapply (rec_reached m K (peer c j) (.inl ())); iexact HR
  iintro HO
  rw [wp_ret]; imodintro
  isplitl [HO]; · iexists _; iexact HO
  iempintro

theorem barrier_wait (c : Dev nD) :
    iprop(Rec m K ∗ ow (F := F) c (O₁ c) ∗ cred (tallyAt (bar c) () 15) ∗ atPos (ER (F := F)) (bar c) 0 ∅ 0)
      ⊢ Wp c (semWaitWord barS 15#32) (fun _ => iprop(ow c (O₁ c) ∗ semVal (bar c) 0 ∗ bigSep Finset.univ fun d => slots (F := F) (peer c d) d)) := by
  simp only [semWaitWord, Prog.lift]
  have hrest : bigSep ((rd m).duties ((c : Thread nD τ), SemLoc.reg barS) 0 \ ∅) (fun d => (rd m).payload ((c : Thread nD τ), SemLoc.reg barS) 0 d)
      = bigSep Finset.univ fun d => slots (F := F) (peer c d) d := rest_bar m c
  unfold ow
  iintro ⟨#HR, ⟨%W, HO⟩, Hc, Hat⟩
  iapply (Rounds.wp_wait_rest_token 𝒱₀ ER (rd m) (c : Thread nD τ) none (κ := K (c, .inl ()))
      (wpE_semWait_eq 𝒱₀ (c : Thread nD τ) none Set.univ) (Set.mem_univ _) () (O := O₁ c) (W := W) (R := 0) (m := 0) (T := ∅)
      (by rw [Nat.zero_add]; exact (expect_bar m c).symm)) $$ [HO Hc Hat]
  · isplitr; · iapply (rec_inv m K c (.inl ())); iexact HR
    isplitl [Hc]; · iexact Hc
    isplitl [HO]; · iexact HO
    isplitr
    · iapply (rec_mayWait m K c (.reg barS) (le_of_eq clv_bar) (above_O₁ c)); iexact HR
    iexact Hat
  iintro ⟨HO, Hat, -, Hpay⟩
  ihave Hp := (Entails.of_eq hrest) $$ Hpay
  imod (Rounds.cell_close ER (rd m) (Set.mem_univ (K (c, .inl ()))) (fun h => h) (R := 0 + 1) (duties_later m (bar c))) $$ [Hat] with Hz
  · isplitr; · iapply (rec_inv m K c (.inl ())); iexact HR
    iexact Hat
  rw [wp_ret]; imodintro
  isplitl [HO]; · iexists _; iexact HO
  isplitl [Hz] <;> iassumption

end Cert.KernelIdeal.Body

end
-- ==== Proof.Heads.lean ====
/- The part of a device's run before the first exchange: the queries, then the heads one after another. -/
module

public import proofs.«01_k».proof.Proof.Steps

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × Cell → ℕ)

/-- Buffer `b` of device `c` holds `f`. -/
abbrev full (c : Dev nD) (b : Ref sig .tc) (f : b.ty.Contents (Elt F)) : sProp 𝕄 := ((c : Thread nD τ).loc b) ↦{fullShare} f

theorem hz : (![0, 0] : Fin 2 → Nat) = fun _ => 0 := funext fun a => by fin_cases a <;> rfl

/-! ## The queries -/

theorem q_step (c : Dev nD) :
    iprop(full c cc0_stg0_0 (xA m c) ∗ full c cc0_stg1_0 (wqA m c) ∗ (∃ f, full c cc0_scratch0 f))
      ⊢ Wp c (qP (F := F)) (fun _ => iprop(full c cc0_stg0_0 (xA m c) ∗ full c cc0_stg1_0 (wqA m c) ∗ full c cc0_scratch0 (qF m c))) := by
  unfold qP
  simp only [Prog.lift, Prog.bind_op, Prog.bind_ret, Prog.pure_eq_ret]
  iintro ⟨Hx, Hw, ⟨%f, Hq⟩⟩
  have hx : (xM : Memref sig .tc .vmem S512x1024 .f32).view.readAt (Elt F) (Rect.unit (s := S512x1024) ![0, 0] S512x1024.size inb_S512x1024_S512x1024_0_0).toLoadRect (xA m c) = xA m c :=
    Memref.readAt_unit_zero (Elt F) cc0_stg0_0 hz _ _
  have hw : (wqM : Memref sig .tc .vmem S1024x1024 .f32).view.readAt (Elt F) (Rect.unit (s := S1024x1024) ![0, 0] S1024x1024.size inb_S1024x1024_S1024x1024_0_0).toLoadRect (wqA m c) = wqA m c :=
    Memref.readAt_unit_zero (Elt F) cc0_stg1_0 hz _ _
  have hst : ∀ w, ((qM : Memref sig .tc .vmem S512x1024 .bf16).access (Rect.unit (s := S512x1024) ![0, 0] S512x1024.size inb_S512x1024_S512x1024_0_0)).write (Elt F) f w Finset.univ = w :=
    fun w => Memref.write_access_unit_zero_univ (Elt F) cc0_scratch0 hz _ f w
  iapply (wp_load 𝒱₀ (c : Thread nD τ) none Set.univ (m := xM) (Finset.subset_univ _)) $$ Hx; iintro Hx
  rw [hx]
  iapply (wp_load 𝒱₀ (c : Thread nD τ) none Set.univ (m := wqM) (Finset.subset_univ _)) $$ Hw; iintro Hw
  rw [hw]
  iapply (wp_load 𝒱₀ (c : Thread nD τ) none Set.univ (m := qM) (Finset.subset_univ _)) $$ Hq; iintro Hq
  iapply (wp_store 𝒱₀ (c : Thread nD τ) none Set.univ (m := qM) (r := Rect.unit (s := S512x1024) ![0, 0] S512x1024.size inb_S512x1024_S512x1024_0_0) (Mk := Finset.univ) (Finset.subset_univ _)) $$ Hq; iintro Hq
  rw [hst, wp_ret]; imodintro
  isplitl [Hx]; · iexact Hx
  isplitl [Hw]; · iexact Hw
  iexact Hq

/-! ## A head's keys and values -/

theorem clv_ksem : clv (dec (.dma ksem)) = 0 := by
  have h : dec (.dma ksem) = none := by
    unfold dec; rw [dif_neg]
    rintro ⟨_ | ⟨k, j⟩, h⟩
    · cases h
    · have hv : (kq k j).val = (ksem).val := by injection h with h; exact congrArg Fin.val h
      rw [kq_val] at hv
      have : (ksem : DmaSem sig).val = 4 := by decide
      omega
  rw [h]; rfl
theorem clv_vsem : clv (dec (.dma vsem)) = 0 := by
  have h : dec (.dma vsem) = none := by
    unfold dec; rw [dif_neg]
    rintro ⟨_ | ⟨k, j⟩, h⟩
    · cases h
    · have hv : (kq k j).val = (vsem).val := by injection h with h; exact congrArg Fin.val h
      rw [kq_val] at hv
      have : (vsem : DmaSem sig).val = 5 := by decide
      omega
  rw [h]; rfl

theorem head_split (c : Dev nD) (b : Ref sig .tc) (S : Finset (Idx ((c : Thread nD τ).loc b))) (f : b.ty.Contents (Elt F)) :
    full c b f ⊢ iprop((((c : Thread nD τ).loc b) ↦[S]{fullShare} f) ∗ ((((c : Thread nD τ).loc b) ↦[S]{fullShare} f) -∗ full c b f)) := by
  refine (pointsTo_split_subset (Finset.subset_univ S)).1.trans ?_
  iintro ⟨H1, H2⟩
  isplitl [H1]; · iexact H1
  iintro H1
  iapply (pointsTo_split_subset (Finset.subset_univ S)).2
  isplitl [H1] <;> iassumption

theorem copy_step (c : Dev nD) (h : Fin 8) {α : Type} (kk : PUnit → P F α) (Q : α → sProp 𝕄) :
    iprop(Rec m K ∗ ow (F := F) c (O₁ c) ∗ full c main_arg2 (kA m c) ∗ full c main_arg3 (vA m c) ∗ (∃ f, full c cc0_scratch7 f) ∗ (∃ f, full c cc0_scratch8 f)
        ∗ semVal ((c : Thread nD τ), .dma ksem) 0 ∗ semVal ((c : Thread nD τ), .dma vsem) 0)
      ⊢ iprop((ow (F := F) c (O₁ c) ∗ full c main_arg2 (kA m c) ∗ full c main_arg3 (vA m c) ∗ full c cc0_scratch7 (kH m c h) ∗ full c cc0_scratch8 (vH m c h)
        ∗ semVal ((c : Thread nD τ), .dma ksem) 0 ∗ semVal ((c : Thread nD τ), .dma vsem) 0 -∗ Wp c (kk ⟨⟩) Q) -∗ Wp c (copyP (F := F) h >>= kk) Q) := by
  unfold copyP
  simp only [Prog.lift, Prog.bind_op, Prog.bind_ret, Prog.pure_eq_ret, bind_assoc]
  iintro ⟨#HR, Ho, Hk, Hv, ⟨%fk, Hkh⟩, ⟨%fv, Hvh⟩, Hs1, Hs2⟩ Hkk
  unfold ow
  icases Ho with ⟨%W, HO⟩
  ihave Hk2 := (head_split c main_arg2 (headM kM h).view.set (kA m c)) $$ Hk
  icases Hk2 with ⟨Hk, Hkb⟩
  ihave Hv2 := (head_split c main_arg3 (headM vM h).view.set (vA m c)) $$ Hv
  icases Hv2 with ⟨Hv, Hvb⟩
  iapply (Transfers.wp_dmaLocal countersEmb 𝒱₀ (c : Thread nD τ) none (src := headM kM h) (dst := khM) (sm := .dma ksem) (Sd := Finset.univ) () ((khM : Memref sig .tc .vmem S2048x128 .f32).view.dmaCredit) rfl
    (View.dmaCredit_pos _ (by decide)) (Finset.subset_univ _)) $$ [Hk Hkh Hs1]
  · isplitl [Hk]; · iexact Hk
    isplitl [Hkh]; · iexact Hkh
    iexact Hs1
  iintro Hf1
  iapply (Transfers.wp_dmaLocal countersEmb 𝒱₀ (c : Thread nD τ) none (src := headM vM h) (dst := vhM) (sm := .dma vsem) (Sd := Finset.univ) () ((vhM : Memref sig .tc .vmem S2048x128 .f32).view.dmaCredit) rfl
    (View.dmaCredit_pos _ (by decide)) (Finset.subset_univ _)) $$ [Hv Hvh Hs2]
  · isplitl [Hv]; · iexact Hv
    isplitl [Hvh]; · iexact Hvh
    iexact Hs2
  iintro Hf2
  iapply (Transfers.wp_waitLocalO countersEmb 𝒱₀ (c : Thread nD τ) none () rfl) $$ [Hf1 HO]
  · isplitl [Hf1]; · iexact Hf1
    isplitl [HO]; · iexact HO
    iapply (rec_mayWait m K c (.dma ksem) (le_of_eq clv_ksem) ((above_O₁ c).mono (by decide))); iexact HR
  iintro ⟨⟨Hkh, Hk⟩, Hs1, HO⟩
  iapply (Transfers.wp_waitLocalO countersEmb 𝒱₀ (c : Thread nD τ) none () rfl) $$ [Hf2 HO]
  · isplitl [Hf2]; · iexact Hf2
    isplitl [HO]; · iexact HO
    iapply (rec_mayWait m K c (.dma vsem) (le_of_eq clv_vsem) ((above_O₁ c).mono (by decide))); iexact HR
  iintro ⟨⟨Hvh, Hv⟩, Hs2, HO⟩
  iapply Hkk
  isplitl [HO]; · iexists _; iexact HO
  isplitl [Hk Hkb]; · iapply Hkb; iexact Hk
  isplitl [Hv Hvb]; · iapply Hvb; iexact Hv
  isplitl [Hkh]
  · have e : (khM : Memref sig .tc .vmem S2048x128 .f32).view.write (Elt F) fk ((headM kM h).view.read (Elt F) (kA m c)) Finset.univ = kH m c h := View.write_whole_univ _ _ _
    ihave H := (Entails.of_eq (congrArg (full c cc0_scratch7) e)) $$ Hkh
    iexact H
  isplitl [Hvh]
  · have e : (vhM : Memref sig .tc .vmem S2048x128 .f32).view.write (Elt F) fv ((headM vM h).view.read (Elt F) (vA m c)) Finset.univ = vH m c h := View.write_whole_univ _ _ _
    ihave H := (Entails.of_eq (congrArg (full c cc0_scratch8) e)) $$ Hvh
    iexact H
  isplitl [Hs1] <;> iassumption

/-! ## One head -/

theorem store_cols (h : Fin 8) (f : Vec F S512x1024 .f32) (w : Vec F S512x128 .f32) :
    ((accM : Memref sig .tc .vmem S512x1024 .f32).access (Rect.unit (s := S512x1024) ![0, 128 * h.val] S512x128.size (cols_inb h))).write (Elt F) f w Finset.univ
      = VecWindow.put (s := S512x1024) f ![0, 128 * h.val] S512x128.size w := store_win cc0_scratch1 _ rfl f w
theorem store_lcol (h : Fin 8) (f : Vec F S512x8 .f32) (w : Vec F S512x1 .f32) :
    ((lM : Memref sig .tc .vmem S512x8 .f32).access (Rect.unit (s := S512x8) ![0, h.val] S512x1.size (lcol_inb h))).write (Elt F) f w Finset.univ
      = VecWindow.put (s := S512x8) f ![0, h.val] S512x1.size w := store_win cc0_scratch2 _ rfl f w

/-- What stands between the heads: the queries, keys and values; the sums and denominators of the heads below `n`. -/
def HS (c : Dev nD) (n : ℕ) (_ : PUnit.{1}) : sProp 𝕄 :=
  iprop((ow (F := F) c (O₁ c) ∗ full c main_arg2 (kA m c) ∗ full c main_arg3 (vA m c) ∗ (∃ f, full c cc0_scratch7 f) ∗ (∃ f, full c cc0_scratch8 f)
        ∗ semVal ((c : Thread nD τ), .dma ksem) 0 ∗ semVal ((c : Thread nD τ), .dma vsem) 0)
      ∗ full c cc0_scratch0 (qF m c)
      ∗ (∃ f : Vec F S512x1024 .f32, ⌜∀ i : S512x1024.Idx, (cH (i 1)).val < n → f i = accF m c i⌝ ∗ full c cc0_scratch1 f)
      ∗ (∃ f : Vec F S512x8 .f32, ⌜∀ i : S512x8.Idx, (i 1).val < n → f i = lF m c i⌝ ∗ full c cc0_scratch2 f))

theorem head_step (c : Dev nD) (h : Fin 8) (u : PUnit) :
    iprop(Rec m K ∗ HS m c h.val u ∗ emp) ⊢ Wp c (headP (F := F) h) (fun b => iprop(HS m c (h.val + 1) b ∗ emp)) := by
  unfold headP
  simp only [Prog.lift, Prog.bind_op, Prog.bind_ret, Prog.pure_eq_ret]
  iintro ⟨#HR, HI, -⟩
  unfold HS
  icases HI with ⟨H1, Hq, ⟨%fa, %ha, Ha⟩, ⟨%fl, %hl, Hl⟩⟩
  iapply (copy_step m K c h _ _) $$ [H1]
  · isplitr; · iexact HR
    iexact H1
  iintro ⟨Ho, Hk, Hv, Hkh, Hvh, Hs1, Hs2⟩
  iapply (wp_load 𝒱₀ (c : Thread nD τ) none Set.univ (m := qM) (Finset.subset_univ _)) $$ Hq; iintro Hq
  iapply (wp_load 𝒱₀ (c : Thread nD τ) none Set.univ (m := khM) (Finset.subset_univ _)) $$ Hkh; iintro Hkh
  iapply (wp_load 𝒱₀ (c : Thread nD τ) none Set.univ (m := vhM) (Finset.subset_univ _)) $$ Hvh; iintro Hvh
  iapply (wp_load 𝒱₀ (c : Thread nD τ) none Set.univ (m := khM) (Finset.subset_univ _)) $$ Hkh; iintro Hkh
  iapply (wp_load 𝒱₀ (c : Thread nD τ) none Set.univ (m := vhM) (Finset.subset_univ _)) $$ Hvh; iintro Hvh
  iapply (wp_load 𝒱₀ (c : Thread nD τ) none Set.univ (m := khM) (Finset.subset_univ _)) $$ Hkh; iintro Hkh
  iapply (wp_load 𝒱₀ (c : Thread nD τ) none Set.univ (m := vhM) (Finset.subset_univ _)) $$ Hvh; iintro Hvh
  iapply (wp_load 𝒱₀ (c : Thread nD τ) none Set.univ (m := khM) (Finset.subset_univ _)) $$ Hkh; iintro Hkh
  iapply (wp_load 𝒱₀ (c : Thread nD τ) none Set.univ (m := vhM) (Finset.subset_univ _)) $$ Hvh; iintro Hvh
  iapply (wp_load 𝒱₀ (c : Thread nD τ) none Set.univ (m := accM) (Finset.subset_univ _)) $$ Ha; iintro Ha
  iapply (wp_store 𝒱₀ (c : Thread nD τ) none Set.univ (m := accM) (r := Rect.unit (s := S512x1024) ![0, 128 * h.val] S512x128.size (cols_inb h)) (Mk := Finset.univ) (Finset.subset_univ _)) $$ Ha; iintro Ha
  iapply (wp_load 𝒱₀ (c : Thread nD τ) none Set.univ (m := lM) (Finset.subset_univ _)) $$ Hl; iintro Hl
  iapply (wp_store 𝒱₀ (c : Thread nD τ) none Set.univ (m := lM) (r := Rect.unit (s := S512x8) ![0, h.val] S512x1.size (lcol_inb h)) (Mk := Finset.univ) (Finset.subset_univ _)) $$ Hl; iintro Hl
  rw [store_cols, store_lcol, wp_ret]; imodintro
  isplitl
  · isplitl [Ho Hk Hv Hkh Hvh Hs1 Hs2]
    · isplitl [Ho]; · iexact Ho
      isplitl [Hk]; · iexact Hk
      isplitl [Hv]; · iexact Hv
      isplitl [Hkh]; · iexists _; iexact Hkh
      isplitl [Hvh]; · iexists _; iexact Hvh
      isplitl [Hs1] <;> iassumption
    isplitl [Hq]; · iexact Hq
    isplitl [Ha]
    · iexists _
      isplitr
      rotate_left
      · iexact Ha
      · ipureintro
        intro i hi
        rw [put_cols]
        split
        · next e => subst e; rfl
        · next e => exact ha i (by have : (cH (i 1)).val ≠ h.val := fun hv => e (Fin.ext hv); omega)
    · iexists _
      isplitr
      rotate_left
      · iexact Hl
      · ipureintro
        intro i hi
        rw [put_lcol]
        split
        · next e => obtain rfl : (i 1) = h := Fin.ext e; rfl
        · next e => exact hl i (by omega)
  · iempintro

theorem bigSep_emp_univ {n : ℕ} : (bigSep (Finset.univ : Finset (Fin n)) fun _ => iprop(emp)) = (iprop(emp) : sProp 𝕄) := bigSep_emp_const _

/-- All heads. -/
theorem heads_step (c : Dev nD) : iprop(Rec m K ∗ HS m c 0 ⟨⟩)
    ⊢ Wp c (loop 8 (fun h _ => headP (F := F) h) PUnit.unit) (fun _ =>
      iprop((ow (F := F) c (O₁ c) ∗ full c main_arg2 (kA m c) ∗ full c main_arg3 (vA m c) ∗ (∃ f, full c cc0_scratch7 f) ∗ (∃ f, full c cc0_scratch8 f)
        ∗ semVal ((c : Thread nD τ), .dma ksem) 0 ∗ semVal ((c : Thread nD τ), .dma vsem) 0)
      ∗ full c cc0_scratch0 (qF m c) ∗ full c cc0_scratch1 (accF m c) ∗ full c cc0_scratch2 (lF m c))) := by
  have hloop := wp_loop c (Rec m K) 8 (fun h _ => headP (F := F) h) (HS m c) (fun _ => iprop(emp)) (fun _ => iprop(emp)) (fun i a => head_step m K c i a) PUnit.unit
  iintro ⟨#HR, HI⟩
  ihave H := hloop $$ [HI]
  · isplitr; · iexact HR
    isplitl; · iexact HI
    rw [bigSep_emp_univ]; iempintro
  iapply (wp_wand _ _ _) $$ H
  iintro %b ⟨HI, -⟩
  unfold HS
  icases HI with ⟨H1, Hq, ⟨%fa, %ha, Ha⟩, ⟨%fl, %hl, Hl⟩⟩
  obtain rfl : fa = accF m c := funext fun i => ha i (cH (i 1)).isLt
  obtain rfl : fl = lF m c := funext fun i => hl i (i 1).isLt
  isplitl [H1]; · iexact H1
  isplitl [Hq]; · iexact Hq
  isplitl [Ha] <;> iassumption

end Cert.KernelIdeal.Body

end
-- ==== Proof.Exchange.lean ====
/- The first exchange: every device sends each peer that peer's rows of its partial sums, and adds up its own rows. -/
module

public import proofs.«01_k».proof.Proof.Heads

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × Cell → ℕ)

theorem ret_step (c : Dev nD) {α : Type} (a : α) (Q : α → sProp 𝕄) : Q a ⊢ Wp c (.ret a) Q := by
  rw [Wp, wp_ret]; iintro H; imodintro; iexact H

/-! ## Sends -/

theorem credit_slot (b : Memref sig .tc .vmem S16x32x1024 .f32) {s : ℕ} (hs : s < 16) : (slotM b hs).view.dmaCredit = NO := rfl
theorem credit_lslot {s : ℕ} (hs : s < 16) : (lslotM hs).view.dmaCredit = NL := rfl

theorem sendO_step (c : Dev nD) (j : Fin 15) (O : CellTallies nD τ sig Unit) :
    iprop(Rec m K ∗ pts c (accB (peer c j)) (accF m c) ∗ some' (F := F) (peer c j) (slotM rsM (slot_lt j)) ∗ ow (F := F) c (O + tO c j)
        ∗ dutyTok (ER (F := F)) (kc c 0 j) 0 0 ∗ dutyTok (ER (F := F)) (kc (peer c j) 1 j) 0 0)
      ⊢ Wp c (sendOP c j) (fun _ => iprop(ow (F := F) c O ∗ cred (tallyAt (kc c 0 j) () NO))) := by
  have key : ∀ (off : Fin 2 → ℕ) (inb : ∀ a, off a + S32x1024.size a ≤ S512x1024.size a), off = ![32 * (peer c j).val, 0] →
      iprop(Rec m K ∗ pts c (accB (peer c j)) (accF m c) ∗ some' (F := F) (peer c j) (slotM rsM (slot_lt j)) ∗ ow (F := F) c (O + tO c j)
        ∗ dutyTok (ER (F := F)) (kc c 0 j) 0 0 ∗ dutyTok (ER (F := F)) (kc (peer c j) 1 j) 0 0)
      ⊢ Wp c (.op (.enqueueDma (rowsM accM off inb) (.remote (Dev.tc (oDev c j)) (slotM rsM (slot_lt j)) (.dma (semAt cc0_scratch10 (send_lt j)))) (.dma (semAt cc0_scratch11 (slot_lt j))) (View.wordExact_bits rfl) ((View.wordExact_bits rfl).reshape _ _) ⟨⟨rfl, Or.inl rfl⟩, trivial⟩) fun x => .ret x)
        (fun _ => iprop(ow (F := F) c O ∗ cred (tallyAt (kc c 0 j) () NO))) := by
    intro off inb hoff
    subst hoff
    unfold some' tO
    iintro ⟨#HR, Ha, ⟨%fd, Hd⟩, Ho, Ht1, Ht2⟩
    iapply (send_k m K c 0 1 j (oDev c j) (oDev_eq c j) O (src := accB (peer c j)) (dst := slotM rsM (slot_lt j)) rfl rfl NO (credit_slot rsM (slot_lt j)) rfl rfl (fd := fd) (fs := accF m c) (Entails.refl _) (by
      show _ ⊢ holds (peer c j) (slotM rsM (slot_lt j)) (rowsOf (peer c j) (accF m (src (peer c j) j.val)))
      unfold holds
      iintro H
      iexists _
      isplitr
      rotate_left
      · iexact H
      · ipureintro; rw [View.read_write_univ, src_peer]; exact read_acc (peer c j) (accF m c))) $$ [Ha Hd Ho Ht1 Ht2]
    · isplitr; · iexact HR
      isplitl [Ha]; · iexact Ha
      isplitl [Hd]; · iexact Hd
      isplitl [Ho]; · iexact Ho
      isplitl [Ht1] <;> iassumption
    iintro ⟨Ho, Hc⟩
    iapply (ret_step c PUnit.unit _)
    isplitl [Ho] <;> iassumption
  exact key _ _ (off1_eq c j)

theorem sendL_step (c : Dev nD) (j : Fin 15) (O : CellTallies nD τ sig Unit) :
    iprop(Rec m K ∗ pts c (lB (peer c j)) (lF m c) ∗ some' (F := F) (peer c j) (lslotM (slot_lt j)) ∗ ow (F := F) c (O + tL c j)
        ∗ dutyTok (ER (F := F)) (kc c 2 j) 0 0 ∗ dutyTok (ER (F := F)) (kc (peer c j) 3 j) 0 0)
      ⊢ Wp c (sendLP c j) (fun _ => iprop(ow (F := F) c O ∗ cred (tallyAt (kc c 2 j) () NL))) := by
  have key : ∀ (off : Fin 2 → ℕ) (inb : ∀ a, off a + S32x8.size a ≤ S512x8.size a), off = ![32 * (peer c j).val, 0] →
      iprop(Rec m K ∗ pts c (lB (peer c j)) (lF m c) ∗ some' (F := F) (peer c j) (lslotM (slot_lt j)) ∗ ow (F := F) c (O + tL c j)
        ∗ dutyTok (ER (F := F)) (kc c 2 j) 0 0 ∗ dutyTok (ER (F := F)) (kc (peer c j) 3 j) 0 0)
      ⊢ Wp c (.op (.enqueueDma (lrowsM off inb) (.remote (Dev.tc (lDev c j)) (lslotM (slot_lt j)) (.dma (semAt cc0_scratch12 (send_lt j)))) (.dma (semAt cc0_scratch13 (slot_lt j))) (View.wordExact_bits rfl) ((View.wordExact_bits rfl).reshape _ _) ⟨⟨rfl, Or.inl rfl⟩, trivial⟩) fun x => .ret x)
        (fun _ => iprop(ow (F := F) c O ∗ cred (tallyAt (kc c 2 j) () NL))) := by
    intro off inb hoff
    subst hoff
    unfold some' tL
    iintro ⟨#HR, Ha, ⟨%fd, Hd⟩, Ho, Ht1, Ht2⟩
    iapply (send_k m K c 2 3 j (lDev c j) (lDev_eq c j) O (src := lB (peer c j)) (dst := lslotM (slot_lt j)) rfl rfl NL (credit_lslot (slot_lt j)) rfl rfl (fd := fd) (fs := lF m c) (Entails.refl _) (by
      show _ ⊢ holds (peer c j) (lslotM (slot_lt j)) (lrowsOf (peer c j) (lF m (src (peer c j) j.val)))
      unfold holds
      iintro H
      iexists _
      isplitr
      rotate_left
      · iexact H
      · ipureintro; rw [View.read_write_univ, src_peer]; exact read_l (peer c j) (lF m c))) $$ [Ha Hd Ho Ht1 Ht2]
    · isplitr; · iexact HR
      isplitl [Ha]; · iexact Ha
      isplitl [Hd]; · iexact Hd
      isplitl [Ho]; · iexact Ho
      isplitl [Ht1] <;> iassumption
    iintro ⟨Ho, Hc⟩
    iapply (ret_step c PUnit.unit _)
    isplitl [Ho] <;> iassumption
  exact key _ _ (off2_eq c j)

/-- What the sends to one peer take: that peer's rows, its landing slots, the tokens of the four duties. -/
def sR (c : Dev nD) (j : Fin 15) : sProp 𝕄 :=
  iprop((pts c (accB (peer c j)) (accF m c) ∗ pts c (lB (peer c j)) (lF m c))
    ∗ (some' (F := F) (peer c j) (slotM rsM (slot_lt j)) ∗ some' (F := F) (peer c j) (lslotM (slot_lt j)))
    ∗ ((dutyTok (ER (F := F)) (kc c 0 j) 0 0 ∗ dutyTok (ER (F := F)) (kc (peer c j) 1 j) 0 0)
      ∗ dutyTok (ER (F := F)) (kc c 2 j) 0 0 ∗ dutyTok (ER (F := F)) (kc (peer c j) 3 j) 0 0))
/-- What they leave: a credit for each, to wait for its end. -/
def sS (c : Dev nD) (j : Fin 15) : sProp 𝕄 := iprop(cred (tallyAt (kc c 0 j) () NO) ∗ cred (tallyAt (kc c 2 j) () NL))

theorem send_step (c : Dev nD) (j : Fin 15) (u : PUnit) :
    iprop(Rec m K ∗ ow (F := F) c (O₂ c + owedFrom (tOL c) j.val) ∗ sR m c j)
      ⊢ Wp c ((sendOP c j).bind fun _ => sendLP c j) (fun _ => iprop(ow (F := F) c (O₂ c + owedFrom (tOL c) (j.val + 1)) ∗ sS (F := F) c j)) := by
  show _ ⊢ wp _ _ _ (sendOP c j >>= fun _ => sendLP c j) _
  rw [wp_bind, owedFrom_step, show O₂ c + (owedFrom (tOL c) (j.val + 1) + tOL c j) = O₂ c + owedFrom (tOL c) (j.val + 1) + tL c j + tO c j by
    unfold tOL; rw [← add_assoc, ← add_assoc]]
  unfold sR sS
  iintro ⟨#HR, Ho, ⟨Ha, Hl⟩, ⟨Hd1, Hd2⟩, ⟨Ht1, Ht2⟩, Ht3, Ht4⟩
  ihave H := (sendO_step m K c j (O₂ c + owedFrom (tOL c) (j.val + 1) + tL c j)) $$ [Ha Hd1 Ho Ht1 Ht2]
  · isplitr; · iexact HR
    isplitl [Ha]; · iexact Ha
    isplitl [Hd1]; · iexact Hd1
    isplitl [Ho]; · iexact Ho
    isplitl [Ht1] <;> iassumption
  iapply (wp_wand _ _ _) $$ H
  iintro %b ⟨Ho, Hc1⟩
  ihave H := (sendL_step m K c j (O₂ c + owedFrom (tOL c) (j.val + 1))) $$ [Hl Hd2 Ho Ht3 Ht4]
  · isplitr; · iexact HR
    isplitl [Hl]; · iexact Hl
    isplitl [Hd2]; · iexact Hd2
    isplitl [Ho]; · iexact Ho
    isplitl [Ht3] <;> iassumption
  iapply (wp_wand _ _ _) $$ H
  iintro %b' ⟨Ho, Hc2⟩
  isplitl [Ho]; · iexact Ho
  isplitl [Hc1] <;> iassumption

/-! ## The device's own rows -/

theorem acc_sub (c : Dev nD) {off : Fin 2 → ℕ} (inb : ∀ a, off a + S32x1024.size a ≤ S512x1024.size a) (h : off = ![32 * c.val, 0]) :
    (accM : Memref sig .tc .vmem S512x1024 .f32).view.setOn (Rect.unit (s := S512x1024) off S32x1024.size inb).toLoadRect.set ⊆ (accB c).view.set := by
  subst h; exact (View.set_slice _ _).symm.subset
theorem l_sub (c : Dev nD) {off : Fin 2 → ℕ} (inb : ∀ a, off a + S32x8.size a ≤ S512x8.size a) (h : off = ![32 * c.val, 0]) :
    (lM : Memref sig .tc .vmem S512x8 .f32).view.setOn (Rect.unit (s := S512x8) off S32x8.size inb).toLoadRect.set ⊆ (lB c).view.set := by
  subst h; exact (View.set_slice _ _).symm.subset

theorem ownO_step (c : Dev nD) {α : Type} (kk : Vec F S32x1024 .f32 → P F α) (Q : α → sProp 𝕄) :
    pts c (accB c) (accF m c) ⊢ iprop((pts c (accB c) (accF m c) -∗ Wp c (kk (rowsOf c (accF m c))) Q) -∗ Wp c (ownOP c >>= kk) Q) := by
  unfold ownOP
  simp only [Prog.lift, Prog.bind_op, Prog.bind_ret, Prog.pure_eq_ret]
  have e := load_acc c (k0_off3_inb c) (k0_off3_eq c) (accF m c)
  rw [← e]
  exact wp_load 𝒱₀ (c : Thread nD τ) none Set.univ (m := accM) (acc_sub c (k0_off3_inb c) (k0_off3_eq c))
theorem ownL_step (c : Dev nD) {α : Type} (kk : Vec F S32x8 .f32 → P F α) (Q : α → sProp 𝕄) :
    pts c (lB c) (lF m c) ⊢ iprop((pts c (lB c) (lF m c) -∗ Wp c (kk (lrowsOf c (lF m c))) Q) -∗ Wp c (ownLP c >>= kk) Q) := by
  unfold ownLP
  simp only [Prog.lift, Prog.bind_op, Prog.bind_ret, Prog.pure_eq_ret]
  have e := load_l c (k0_off4_inb c) (k0_off4_eq c) (lF m c)
  rw [← e]
  exact wp_load 𝒱₀ (c : Thread nD τ) none Set.univ (m := lM) (l_sub c (k0_off4_inb c) (k0_off4_eq c))

/-! ## One peer's contribution -/

theorem rs_sub {s : ℕ} (hs : s < 16) :
    (rsM : Memref sig .tc .vmem S16x32x1024 .f32).view.setOn (Rect.unit (s := S16x32x1024) ![s, 0, 0] S1x32x1024.size (slot_inb hs)).toLoadRect.set ⊆ (slotM rsM hs).view.set :=
  ((View.set_slice _ _).symm.trans (View.set_reshape _ _).symm).subset
theorem ag_sub {s : ℕ} (hs : s < 16) :
    (agM : Memref sig .tc .vmem S16x32x1024 .f32).view.setOn (Rect.unit (s := S16x32x1024) ![s, 0, 0] S1x32x1024.size (slot_inb hs)).toLoadRect.set ⊆ (slotM agM hs).view.set :=
  ((View.set_slice _ _).symm.trans (View.set_reshape _ _).symm).subset
theorem rl_sub {s : ℕ} (hs : s < 16) :
    (rlM : Memref sig .tc .vmem S16x32x8 .f32).view.setOn (Rect.unit (s := S16x32x8) ![s, 0, 0] S1x32x8.size (lslot_inb hs)).toLoadRect.set ⊆ (lslotM hs).view.set :=
  ((View.set_slice _ _).symm.trans (View.set_reshape _ _).symm).subset

/-- The totals so far. -/
def rI (c : Dev nD) (n : ℕ) (a : Vec F S32x1024 .f32 × Vec F S32x8 .f32) : sProp 𝕄 := iprop(⌜a = tot m c n⌝ ∗ ow (F := F) c (O₂ c))
def rR' (c : Dev nD) (j : Fin 15) : sProp 𝕄 :=
  iprop((cred (tallyAt (kc c 1 j) () NO) ∗ atPos (ER (F := F)) (kc c 1 j) 0 ∅ 0) ∗ cred (tallyAt (kc c 3 j) () NL) ∗ atPos (ER (F := F)) (kc c 3 j) 0 ∅ 0)
def rS (c : Dev nD) (j : Fin 15) : sProp 𝕄 :=
  iprop((semVal (kc c 1 j) 0 ∗ semVal (kc c 3 j) 0) ∗ some' (F := F) c (slotM rsM (slot_lt j)) ∗ some' (F := F) c (lslotM (slot_lt j)))

theorem recv_step (c : Dev nD) (j : Fin 15) (a : Vec F S32x1024 .f32 × Vec F S32x8 .f32) :
    iprop(Rec m K ∗ rI m c j.val a ∗ rR' (F := F) c j) ⊢ Wp c (recvP c j a) (fun b => iprop(rI m c (j.val + 1) b ∗ rS (F := F) c j)) := by
  unfold recvP
  simp only [Prog.lift, Prog.bind_op, Prog.bind_ret, Prog.pure_eq_ret]
  unfold rI rR' rS
  iintro ⟨#HR, ⟨%ha, Ho⟩, ⟨Hc1, Hp1⟩, Hc2, Hp2⟩
  subst ha
  iapply (wait_k m K c 1 j (n := 2) (O := O₂ c) (by show 2 ≤ 2; decide) (above_O₂ c) (q := semAt cc0_scratch11 (slot_lt j)) rfl (dstw := slotM rsM (slot_lt j)) (credit_slot rsM (slot_lt j))) $$ [Ho Hc1 Hp1]
  · isplitr; · iexact HR
    isplitl [Ho]; · iexact Ho
    isplitl [Hc1]; · iexact Hc1
    iexact Hp1
  iintro ⟨Ho, Hz1, Hb⟩
  iapply (wait_k m K c 3 j (n := 2) (O := O₂ c) (by show 2 ≤ 2; decide) (above_O₂ c) (q := semAt cc0_scratch13 (slot_lt j)) rfl (dstw := lslotM (slot_lt j)) (credit_lslot (slot_lt j))) $$ [Ho Hc2 Hp2]
  · isplitr; · iexact HR
    isplitl [Ho]; · iexact Ho
    isplitl [Hc2]; · iexact Hc2
    iexact Hp2
  iintro ⟨Ho, Hz3, Hbl⟩
  have e1 : kpay m c 1 j ⊢ iprop(∃ f, ⌜(slotM rsM (slot_lt j)).view.read (Elt F) f = rowsOf c (accF m (src c j.val))⌝ ∗ pts c (slotM rsM (slot_lt j)) f) := Entails.refl _
  have e3 : kpay m c 3 j ⊢ iprop(∃ f, ⌜(lslotM (slot_lt j)).view.read (Elt F) f = lrowsOf c (lF m (src c j.val))⌝ ∗ pts c (lslotM (slot_lt j)) f) := Entails.refl _
  ihave Hb := e1 $$ Hb
  ihave Hbl := e3 $$ Hbl
  icases Hb with ⟨%fb, %hb, Hb⟩
  icases Hbl with ⟨%fl, %hl, Hl⟩
  iapply (wp_load 𝒱₀ (c : Thread nD τ) none Set.univ (m := rsM) (rs_sub (slot_lt j))) $$ Hb; iintro Hb
  iapply (wp_load 𝒱₀ (c : Thread nD τ) none Set.univ (m := rlM) (rl_sub (slot_lt j))) $$ Hl; iintro Hl
  rw [wp_ret]; imodintro
  isplitl [Ho]
  · isplitr
    · ipureintro
      rw [load_rs (slot_lt j) fb _ hb, load_rl (slot_lt j) fl _ hl]; rfl
    · iexact Ho
  isplitl [Hz1 Hz3]
  · isplitl [Hz1] <;> iassumption
  unfold some'
  isplitl [Hb]
  · iexists fb; iexact Hb
  · iexists fl; iexact Hl

end Cert.KernelIdeal.Body

end
-- ==== Proof.Gather.lean ====
/- After the first exchange: the quotients, the output projection, and the exchange of the rows of the result. -/
module

public import proofs.«01_k».proof.Proof.Exchange

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × Cell → ℕ)

variable (m : (ℓ : Loc nD τ sig) → Buf (Elt F) ℓ) (K : Dev nD × Cell → ℕ)

/-! ## The totals stored, and divided -/

theorem tot_step (c : Dev nD) (f o : Vec F S32x1024 .f32) :
    full c cc0_scratch6 f ⊢ Wp c (totP o) (fun _ => full c cc0_scratch6 (k0_pay121 o)) := by
  unfold totP
  simp only [Prog.lift, Prog.bind_op, Prog.bind_ret, Prog.pure_eq_ret]
  have hst : ((finM : Memref sig .tc .vmem S32x1024 .f32).access (Rect.unit (s := S32x1024) ![0, 0] S32x1024.size inb_S32x1024_S32x1024_0_0)).write (Elt F) f (k0_pay121 o) Finset.univ = k0_pay121 o :=
    Memref.write_access_unit_zero_univ (Elt F) cc0_scratch6 hz _ f _
  iintro H
  iapply (wp_load 𝒱₀ (c : Thread nD τ) none Set.univ (m := finM) (Finset.subset_univ _)) $$ H; iintro H
  iapply (wp_store 𝒱₀ (c : Thread nD τ) none Set.univ (m := finM) (r := Rect.unit (s := S32x1024) ![0, 0] S32x1024.size inb_S32x1024_S32x1024_0_0) (Mk := Finset.univ) (Finset.subset_univ _)) $$ H; iintro H
  rw [hst]
  iapply (ret_step c PUnit.unit _); iexact H

theorem fcols_congr (h : Fin 8) (f g : Vec F S32x1024 .f32) (hfg : ∀ i : S32x1024.Idx, (cH (i 1)).val = h.val → f i = g i) :
    fcols h f = fcols h g := by
  funext y
  show f ((Rect.unit (s := S32x1024) ![0, 128 * h.val] S32x128.size (fcols_inb h)).emb y) = g _
  refine hfg _ ?_
  show (128 * h.val + 1 * (y 1).val) / 128 = h.val
  have : (y 1).val < 128 := (y 1).isLt
  omega

theorem store_fcols (h : Fin 8) (f : Vec F S32x1024 .f32) (w : Vec F S32x128 .f32) :
    ((finM : Memref sig .tc .vmem S32x1024 .f32).access (Rect.unit (s := S32x1024) ![0, 128 * h.val] S32x128.size (fcols_inb h))).write (Elt F) f w Finset.univ
      = VecWindow.put (s := S32x1024) f ![0, 128 * h.val] S32x128.size w := store_win cc0_scratch6 _ rfl f w

/-- The heads below `n` divided, the others not yet. -/
def dI (c : Dev nD) (n : ℕ) (_ : PUnit.{1}) : sProp 𝕄 :=
  iprop(∃ f : Vec F S32x1024 .f32, ⌜∀ i : S32x1024.Idx, f i = if (cH (i 1)).val < n then finF m c i else k0_pay121 (tot m c 15).1 i⌝ ∗ full c cc0_scratch6 f)

theorem div_step (c : Dev nD) (h : Fin 8) (u : PUnit) :
    iprop(iprop(emp) ∗ dI m c h.val u ∗ emp) ⊢ Wp c (divP (tot m c 15).2 h) (fun b => iprop(dI m c (h.val + 1) b ∗ emp)) := by
  unfold divP dI
  simp only [Prog.lift, Prog.bind_op, Prog.bind_ret, Prog.pure_eq_ret]
  iintro ⟨-, ⟨%f, %hf, H⟩, -⟩
  have hld : (finM : Memref sig .tc .vmem S32x1024 .f32).view.readAt (Elt F) (Rect.unit (s := S32x1024) ![0, 128 * h.val] S32x128.size (fcols_inb h)).toLoadRect f
      = fcols h (k0_pay121 (tot m c 15).1) := fcols_congr h f _ fun i hi => by rw [hf i, if_neg (by omega)]
  iapply (wp_load 𝒱₀ (c : Thread nD τ) none Set.univ (m := finM) (Finset.subset_univ _)) $$ H; iintro H
  rw [hld]
  iapply (wp_load 𝒱₀ (c : Thread nD τ) none Set.univ (m := finM) (Finset.subset_univ _)) $$ H; iintro H
  iapply (wp_store 𝒱₀ (c : Thread nD τ) none Set.univ (m := finM) (r := Rect.unit (s := S32x1024) ![0, 128 * h.val] S32x128.size (fcols_inb h)) (Mk := Finset.univ) (Finset.subset_univ _)) $$ H; iintro H
  rw [store_fcols]
  iapply (ret_step c PUnit.unit _)
  isplitl
  · iexists _
    isplitr
    rotate_left
    · iexact H
    · ipureintro
      intro i
      rw [put_fcols]
      by_cases e : cH (i 1) = h
      · subst e; rw [if_pos rfl, if_pos (Nat.lt_succ_self _)]; rfl
      · have hne : (cH (i 1)).val ≠ h.val := fun hv => e (Fin.ext hv)
        rw [if_neg e, hf i]
        by_cases hlt : (cH (i 1)).val < h.val
        · rw [if_pos hlt, if_pos (by omega)]
        · rw [if_neg hlt, if_neg (by omega)]
  · iempintro

theorem divs_step (c : Dev nD) :
    full c cc0_scratch6 (k0_pay121 (tot m c 15).1) ⊢ Wp c (loop 8 (fun h _ => divP (tot m c 15).2 h) PUnit.unit) (fun _ => full c cc0_scratch6 (finF m c)) := by
  have hloop := wp_loop c iprop(emp) 8 (fun h _ => divP (tot m c 15).2 h) (dI m c) (fun _ => iprop(emp)) (fun _ => iprop(emp)) (fun i a => div_step m c i a) PUnit.unit
  iintro Hf
  ihave H := hloop $$ [Hf]
  · isplitr; · iempintro
    isplitl
    · unfold dI
      iexists _
      isplitr
      rotate_left
      · iexact Hf
      · ipureintro; intro i; rw [if_neg (Nat.not_lt_zero _)]
    rw [bigSep_emp_univ]; iempintro
  iapply (wp_wand _ _ _) $$ H
  iintro %b ⟨HI, -⟩
  unfold dI
  icases HI with ⟨%f, %hf, H⟩
  obtain rfl : f = finF m c := funext fun i => by rw [hf i, if_pos (cH (i 1)).isLt]
  iexact H

/-! ## The projection -/

theorem store_rows (c : Dev nD) {off : Fin 2 → ℕ} (inb : ∀ a, off a + S32x1024.size a ≤ S512x1024.size a) (h : off = ![32 * c.val, 0])
    (f : Vec F S512x1024 .f32) (w : Vec F S32x1024 .f32) :
    ((outM : Memref sig .tc .vmem S512x1024 .f32).access (Rect.unit (s := S512x1024) off S32x1024.size inb)).write (Elt F) f w Finset.univ
      = VecWindow.put (s := S512x1024) f ![32 * c.val, 0] S32x1024.size w := store_win cc0_stg3_0 inb h f w

/-- The rows of the result in place once `n` peers' have come: the device's own, and those peers'. -/
def gI (c : Dev nD) (n : ℕ) : sProp 𝕄 :=
  iprop(∃ f : Vec F S512x1024 .f32, ⌜∀ i : S512x1024.Idx, (c.val + 16 - (rB (i 0)).val) % 16 ≤ n → f i = outF m i⌝ ∗ full c cc0_stg3_0 f)

theorem proj_step (c : Dev nD) :
    iprop(full c cc0_scratch6 (finF m c) ∗ full c cc0_stg2_0 (woA m c) ∗ (∃ f, full c cc0_stg3_0 f))
      ⊢ Wp c (projP c) (fun _ => iprop(full c cc0_scratch6 (yF m c) ∗ full c cc0_stg2_0 (woA m c) ∗ gI m c 0)) := by
  unfold projP
  simp only [Prog.lift, Prog.bind_op, Prog.bind_ret, Prog.pure_eq_ret]
  iintro ⟨Hf, Hw, ⟨%fo, Ho⟩⟩
  have hf : (finM : Memref sig .tc .vmem S32x1024 .f32).view.readAt (Elt F) (Rect.unit (s := S32x1024) ![0, 0] S32x1024.size inb_S32x1024_S32x1024_0_0).toLoadRect (finF m c) = finF m c :=
    Memref.readAt_unit_zero (Elt F) cc0_scratch6 hz _ _
  have hw : (woM : Memref sig .tc .vmem S1024x1024 .f32).view.readAt (Elt F) (Rect.unit (s := S1024x1024) ![0, 0] S1024x1024.size inb_S1024x1024_S1024x1024_0_0).toLoadRect (woA m c) = woA m c :=
    Memref.readAt_unit_zero (Elt F) cc0_stg2_0 hz _ _
  iapply (wp_load 𝒱₀ (c : Thread nD τ) none Set.univ (m := finM) (Finset.subset_univ _)) $$ Hf; iintro Hf
  rw [hf]
  iapply (wp_load 𝒱₀ (c : Thread nD τ) none Set.univ (m := woM) (Finset.subset_univ _)) $$ Hw; iintro Hw
  rw [hw]
  iapply (wp_load 𝒱₀ (c : Thread nD τ) none Set.univ (m := outM) (Finset.subset_univ _)) $$ Ho; iintro Ho
  iapply (wp_store 𝒱₀ (c : Thread nD τ) none Set.univ (m := outM) (r := Rect.unit (s := S512x1024) (k0_off3 c) S32x1024.size (k0_off3_inb c)) (Mk := Finset.univ) (Finset.subset_univ _)) $$ Ho; iintro Ho
  rw [store_rows c (k0_off3_inb c) (k0_off3_eq c)]
  ihave H := (tot_step c (finF m c) (k0_pay120 (finF m c) (woA m c))) $$ Hf
  iapply (wp_wand _ _ _) $$ H
  iintro %b Hf
  rw [pay121_eq]
  isplitl [Hf]; · iexact Hf
  isplitl [Hw]; · iexact Hw
  unfold gI
  iexists _
  isplitr
  rotate_left
  · iexact Ho
  · ipureintro
    intro i hi
    have hb : (rB (i 0)).val < 16 := (rB (i 0)).isLt
    have hc : c.val < 16 := c.isLt
    obtain rfl : rB (i 0) = c := Fin.ext (by omega)
    rw [put_rows, if_pos rfl]; rfl

/-! ## The second exchange -/

/-- What the send of the result rows to one peer takes. -/
def uR (c : Dev nD) (j : Fin 15) : sProp 𝕄 :=
  iprop(kpay m c 4 j ∗ some' (F := F) (peer c j) (slotM agM (slot_lt j)) ∗ dutyTok (ER (F := F)) (kc c 4 j) 0 0 ∗ dutyTok (ER (F := F)) (kc (peer c j) 5 j) 0 0)
def uS (c : Dev nD) (j : Fin 15) : sProp 𝕄 := cred (tallyAt (kc c 4 j) () NO)

theorem sendG_step (c : Dev nD) (j : Fin 15) (u : PUnit) :
    iprop(Rec m K ∗ ow (F := F) c (owedFrom (tG c) j.val) ∗ uR m c j)
      ⊢ Wp c (sendGP c j) (fun _ => iprop(ow (F := F) c (owedFrom (tG c) (j.val + 1)) ∗ uS (F := F) c j)) := by
  rw [owedFrom_step]
  unfold sendGP uR uS some' tG
  simp only [Prog.lift]
  iintro ⟨#HR, Ho, Ha, ⟨%fd, Hd⟩, Ht1, Ht2⟩
  have e4 : kpay m c 4 j ⊢ ((finM : Memref sig .tc .vmem S32x1024 .f32).view.loc (c : Thread nD τ) ↦[(finM : Memref sig .tc .vmem S32x1024 .f32).view.set]{Transfers.shareTok fullShare 15 j} yF m c) := Entails.refl _
  iapply (send_k m K c 4 5 j (gDev c j) (gDev_eq c j) (owedFrom (fun j => tallyAt (kc (peer c j) 5 j) () NO) (j.val + 1)) (src := finM) (dst := slotM agM (slot_lt j)) rfl rfl NO (credit_slot agM (slot_lt j)) rfl rfl (fd := fd) (fs := yF m c)
    (q := Transfers.shareTok fullShare 15 j) (Entails.refl _) (by
      show _ ⊢ holds (peer c j) (slotM agM (slot_lt j)) (yF m (src (peer c j) j.val))
      unfold holds
      iintro H
      iexists _
      isplitr
      rotate_left
      · iexact H
      · ipureintro; rw [View.read_write_univ, src_peer]; exact View.read_whole _ _)) $$ [Ha Hd Ho Ht1 Ht2]
  · isplitr; · iexact HR
    isplitl [Ha]; · iapply e4; iexact Ha
    isplitl [Hd]; · iexact Hd
    isplitl [Ho]; · iexact Ho
    isplitl [Ht1]; · iexact Ht1
    iexact Ht2
  iintro ⟨Ho, Hc⟩
  iapply (ret_step c PUnit.unit _)
  isplitl [Ho]; · iexact Ho
  iexact Hc

def wR (c : Dev nD) (j : Fin 15) : sProp 𝕄 := iprop(cred (tallyAt (kc c 5 j) () NO) ∗ atPos (ER (F := F)) (kc c 5 j) 0 ∅ 0)
def wS (c : Dev nD) (j : Fin 15) : sProp 𝕄 := iprop(semVal (kc c 5 j) 0 ∗ some' (F := F) c (slotM agM (slot_lt j)))

theorem src_dist (c : Dev nD) (j : Fin 15) : (c.val + 16 - (src c j.val).val) % 16 = j.val + 1 := by
  revert c j; decide

theorem gather_step (c : Dev nD) (j : Fin 15) (u : PUnit) :
    iprop(Rec m K ∗ iprop(gI m c j.val ∗ ow (F := F) c 0) ∗ wR (F := F) c j)
      ⊢ Wp c (gatherP c j) (fun _ => iprop(iprop(gI m c (j.val + 1) ∗ ow (F := F) c 0) ∗ wS (F := F) c j)) := by
  unfold gatherP gI wR wS
  simp only [Prog.lift, Prog.bind_op, Prog.bind_ret, Prog.pure_eq_ret]
  iintro ⟨#HR, ⟨⟨%f, %hf, Hf⟩, Ho⟩, Hc, Hp⟩
  iapply (wait_k m K c 5 j (n := 3) (O := 0) (by show 3 ≤ 3; decide) (Above.zero 3) (q := semAt cc0_scratch15 (slot_lt j)) rfl (dstw := slotM agM (slot_lt j)) (credit_slot agM (slot_lt j))) $$ [Ho Hc Hp]
  · isplitr; · iexact HR
    isplitl [Ho]; · iexact Ho
    isplitl [Hc]; · iexact Hc
    iexact Hp
  iintro ⟨Ho, Hz, Hb⟩
  have e5 : kpay m c 5 j ⊢ iprop(∃ f, ⌜(slotM agM (slot_lt j)).view.read (Elt F) f = yF m (src c j.val)⌝ ∗ pts c (slotM agM (slot_lt j)) f) := Entails.refl _
  ihave Hb := e5 $$ Hb
  icases Hb with ⟨%fb, %hb, Hb⟩
  iapply (wp_load 𝒱₀ (c : Thread nD τ) none Set.univ (m := agM) (ag_sub (slot_lt j))) $$ Hb; iintro Hb
  iapply (wp_load 𝒱₀ (c : Thread nD τ) none Set.univ (m := outM) (Finset.subset_univ _)) $$ Hf; iintro Hf
  iapply (wp_store 𝒱₀ (c : Thread nD τ) none Set.univ (m := outM) (r := Rect.unit (s := S512x1024) (k0_off6 c (BitVec.ofNat 32 (1 + j.val))) S32x1024.size (k0_off6_inb c j)) (Mk := Finset.univ) (Finset.subset_univ _)) $$ Hf; iintro Hf
  rw [load_ag (slot_lt j) fb _ hb, pay122_eq, store_rows (src c j.val) (k0_off6_inb c j) (off6_eq c j)]
  iapply (ret_step c PUnit.unit _)
  isplitl [Hf Ho]
  · isplitl [Hf]
    · iexists _
      isplitr
      rotate_left
      · iexact Hf
      · ipureintro
        intro i hi
        rw [put_rows]
        by_cases e : rB (i 0) = src c j.val
        · rw [if_pos e, ← e]; rfl
        · rw [if_neg e]
          refine hf i ?_
          have hb : (rB (i 0)).val < 16 := (rB (i 0)).isLt
          have hc : c.val < 16 := c.isLt
          have hd := src_dist c j
          have hs : (src c j.val).val < 16 := (src c j.val).isLt
          have hne : (rB (i 0)).val ≠ (src c j.val).val := fun hv => e (Fin.ext hv)
          omega
    · iexact Ho
  isplitl [Hz]; · iexact Hz
  unfold some'
  iexists fb; iexact Hb

/-! ## The waits for the sends -/

def vR (c : Dev nD) (j : Fin 15) : sProp 𝕄 :=
  iprop((cred (tallyAt (kc c 0 j) () NO) ∗ atPos (ER (F := F)) (kc c 0 j) 0 ∅ 0) ∗ cred (tallyAt (kc c 2 j) () NL) ∗ atPos (ER (F := F)) (kc c 2 j) 0 ∅ 0)
def vS (c : Dev nD) (j : Fin 15) : sProp 𝕄 :=
  iprop((semVal (kc c 0 j) 0 ∗ semVal (kc c 2 j) 0) ∗ pts c (accB (peer c j)) (accF m c) ∗ pts c (lB (peer c j)) (lF m c))

theorem sent_step (c : Dev nD) (j : Fin 15) (u : PUnit) :
    iprop(Rec m K ∗ ow (F := F) c 0 ∗ vR (F := F) c j) ⊢ Wp c (sentP c j) (fun _ => iprop(ow (F := F) c 0 ∗ vS m c j)) := by
  unfold sentP vR vS
  simp only [Prog.lift, Prog.bind_op, Prog.bind_ret, Prog.pure_eq_ret]
  iintro ⟨#HR, Ho, ⟨Hc1, Hp1⟩, Hc2, Hp2⟩
  iapply (wait_k m K c 0 j (n := 0) (O := 0) (by show 0 ≤ 0; decide) (Above.zero 0) (q := semAt cc0_scratch10 (send_lt j)) rfl (dstw := rowsM accM (k0_off1 c (BitVec.ofNat 32 (1 + j.val))) (k0_off1_inb c j)) rfl) $$ [Ho Hc1 Hp1]
  · isplitr; · iexact HR
    isplitl [Ho]; · iexact Ho
    isplitl [Hc1]; · iexact Hc1
    iexact Hp1
  iintro ⟨Ho, Hz0, Ha⟩
  iapply (wait_k m K c 2 j (n := 0) (O := 0) (by show 0 ≤ 0; decide) (Above.zero 0) (q := semAt cc0_scratch12 (send_lt j)) rfl (dstw := lrowsM (k0_off2 c (BitVec.ofNat 32 (1 + j.val))) (k0_off2_inb c j)) rfl) $$ [Ho Hc2 Hp2]
  · isplitr; · iexact HR
    isplitl [Ho]; · iexact Ho
    isplitl [Hc2]; · iexact Hc2
    iexact Hp2
  iintro ⟨Ho, Hz2, Hl⟩
  iapply (ret_step c PUnit.unit _)
  isplitl [Ho]; · iexact Ho
  isplitl [Hz0 Hz2]
  · isplitl [Hz0]; · iexact Hz0
    iexact Hz2
  isplitl [Ha]; · iapply (show kpay m c 0 j ⊢ pts c (accB (peer c j)) (accF m c) from Entails.refl _); iexact Ha
  iapply (show kpay m c 2 j ⊢ pts c (lB (peer c j)) (lF m c) from Entails.refl _); iexact Hl

def gR (c : Dev nD) (j : Fin 15) : sProp 𝕄 := iprop(uS (F := F) c j ∗ atPos (ER (F := F)) (kc c 4 j) 0 ∅ 0)
def gS (c : Dev nD) (j : Fin 15) : sProp 𝕄 := iprop(semVal (kc c 4 j) 0 ∗ kpay m c 4 j)

theorem sentG_step (c : Dev nD) (j : Fin 15) (u : PUnit) :
    iprop(Rec m K ∗ ow (F := F) c 0 ∗ gR (F := F) c j) ⊢ Wp c (sentGP j) (fun _ => iprop(ow (F := F) c 0 ∗ gS m c j)) := by
  unfold sentGP gR uS gS
  simp only [Prog.lift]
  iintro ⟨#HR, Ho, Hc, Hp⟩
  iapply (wait_k m K c 4 j (n := 0) (O := 0) (by show 0 ≤ 0; decide) (Above.zero 0) (q := semAt cc0_scratch14 (send_lt j)) rfl (dstw := finM) rfl) $$ [Ho Hc Hp]
  · isplitr; · iexact HR
    isplitl [Ho]; · iexact Ho
    isplitl [Hc]; · iexact Hc
    iexact Hp
  iintro ⟨Ho, Hz, Ha⟩
  iapply (ret_step c PUnit.unit _)
  isplitl [Ho]; · iexact Ho
  isplitl [Hz]; · iexact Hz
  iexact Ha

end Cert.KernelIdeal.Body

end
-- ==== Proof.Whole.lean ====
/- A device's whole run: the buffers cut into what the exchanges send and land in, the phases one after another, the buffers whole again. -/
module

public import proofs.«01_k».proof.Proof.Gather

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × Cell → ℕ)

variable (m : (ℓ : Loc nD τ sig) → Buf (Elt F) ℓ) (K : Dev nD × Cell → ℕ)

/-! ## Sixteen as one and fifteen -/

theorem sixteen_slots (Φ : Fin 16 → sProp 𝕄) :
    bigSep Finset.univ Φ = iprop(Φ 0 ∗ bigSep Finset.univ fun j : Fin 15 => Φ ⟨15 - j.val, slot_lt j⟩) := by
  rw [bigSep_succ, bigSep_univ_equiv Fin.revPerm]
  congr 2
  funext j
  congr 1
  apply Fin.ext
  show (Fin.rev j).val + 1 = 15 - j.val
  rw [Fin.val_rev]; omega

def around (c : Dev nD) : Fin 16 ≃ Dev nD :=
  Equiv.ofBijective (fun i => ⟨(c.val + i.val) % 16, Nat.mod_lt _ (by decide)⟩) (by revert c; decide)
theorem sixteen_devs (c : Dev nD) (Φ : Dev nD → sProp 𝕄) :
    bigSep Finset.univ Φ = iprop(Φ c ∗ bigSep Finset.univ fun j : Fin 15 => Φ (peer c j)) := by
  rw [bigSep_univ_equiv (around c), bigSep_succ]
  have h0 : around c 0 = c := by revert c; decide
  rw [h0]; rfl

theorem bs_join {n : ℕ} {A B C : Fin n → sProp 𝕄} (h : ∀ j, iprop(A j ∗ B j) ⊢ C j) :
    iprop(bigSep Finset.univ A ∗ bigSep Finset.univ B) ⊢ bigSep Finset.univ C := by
  rw [← bigSep_sep']; exact bigSep_mono fun j _ => h j
theorem bs_cut {n : ℕ} {A B C : Fin n → sProp 𝕄} (h : ∀ j, C j ⊢ iprop(A j ∗ B j)) :
    bigSep Finset.univ C ⊢ iprop(bigSep Finset.univ A ∗ bigSep Finset.univ B) := by
  rw [← bigSep_sep']; exact bigSep_mono fun j _ => h j

/-! ## The buffers, cut and whole -/

theorem blocks_eq (c : Dev nD) (b : Ref sig .tc) {B : Type} [Fintype B] (I : B → Finset (Idx ((c : Thread nD τ).loc b)))
    (hd : ∀ s s', s ≠ s' → Disjoint (I s) (I s')) (hc : ∀ i, ∃ s, i ∈ I s) (f : b.ty.Contents (Elt F)) :
    full (F := F) c b f = bigSep Finset.univ fun s => ((c : Thread nD τ).loc b) ↦[I s]{fullShare} f :=
  Ring.pointsTo_blocks I hd (Finset.eq_univ_of_forall fun i => by
    obtain ⟨s, hs⟩ := hc i; exact Finset.mem_biUnion.2 ⟨s, Finset.mem_univ _, hs⟩) f
theorem blocks_join (c : Dev nD) (b : Ref sig .tc) {B : Type} [Fintype B] [DecidableEq B] (I : B → Finset (Idx ((c : Thread nD τ).loc b)))
    (hd : ∀ s s', s ≠ s' → Disjoint (I s) (I s')) (hc : ∀ i, ∃ s, i ∈ I s) (f₀ : b.ty.Contents (Elt F)) :
    (bigSep Finset.univ fun s => iprop(∃ f, (((c : Thread nD τ).loc b) ↦[I s]{fullShare} f : sProp 𝕄))) ⊢ iprop(∃ f, full (F := F) c b f) :=
  Ring.pointsTo_blocks_join_exists I hd (Finset.eq_univ_of_forall fun i => by
    obtain ⟨s, hs⟩ := hc i; exact Finset.mem_biUnion.2 ⟨s, Finset.mem_univ _, hs⟩) f₀

theorem some_intro {sp : Space} {s : Shape} {e : EltTy} (c : Dev nD) (M : Memref sig .tc sp s e) (f : Buf (Elt F) (M.view.loc (c : Thread nD τ))) :
    pts c M f ⊢ some' (F := F) c M := by
  unfold some'; iintro H; iexists f; iexact H
theorem rs_cov : ∀ i : S16x32x1024.Idx, ∃ s : Fin 16, i ∈ rsI s := fun i => ⟨i 0, (mem_rs _ i).2 rfl⟩
theorem rs_blocks (c : Dev nD) (f : Vec F S16x32x1024 .f32) :
    full (F := F) c cc0_scratch3 f = bigSep Finset.univ fun s : Fin 16 => pts (F := F) c (slotM rsM s.isLt) f :=
  have h := blocks_eq (F := F) c cc0_scratch3 (B := Fin 16) (fun s => rsI s) rs_disj rs_cov f
  h
theorem rs_cut (c : Dev nD) : iprop(∃ f, full (F := F) c cc0_scratch3 f)
    ⊢ iprop(some' (F := F) c (slotM rsM (0 : Fin 16).isLt) ∗ bigSep Finset.univ fun j : Fin 15 => some' (F := F) c (slotM rsM (slot_lt j))) := by
  have h : (bigSep Finset.univ fun s : Fin 16 => some' (F := F) c (slotM rsM s.isLt))
      = iprop(some' (F := F) c (slotM rsM (0 : Fin 16).isLt) ∗ bigSep Finset.univ fun j : Fin 15 => some' (F := F) c (slotM rsM (slot_lt j))) :=
    sixteen_slots (fun s : Fin 16 => some' (F := F) c (slotM rsM s.isLt))
  rw [← h]
  have e : ∀ f, full (F := F) c cc0_scratch3 f ⊢ bigSep Finset.univ fun s : Fin 16 => some' (F := F) c (slotM rsM s.isLt) := fun f => by
    have e1 : ∀ s : Fin 16, pts (F := F) c (slotM rsM s.isLt) f ⊢ some' (F := F) c (slotM rsM s.isLt) := fun s => some_intro c (slotM rsM s.isLt) f
    exact (Entails.of_eq (rs_blocks c f)).trans (bigSep_mono fun s _ => e1 s)
  iintro ⟨%f, H⟩
  iapply (e f); iexact H
theorem rs_whole (c : Dev nD) : iprop(some' (F := F) c (slotM rsM (0 : Fin 16).isLt) ∗ bigSep Finset.univ fun j : Fin 15 => some' (F := F) c (slotM rsM (slot_lt j)))
    ⊢ iprop(∃ f, full (F := F) c cc0_scratch3 f) := by
  have h : (bigSep Finset.univ fun s : Fin 16 => some' (F := F) c (slotM rsM s.isLt))
      = iprop(some' (F := F) c (slotM rsM (0 : Fin 16).isLt) ∗ bigSep Finset.univ fun j : Fin 15 => some' (F := F) c (slotM rsM (slot_lt j))) :=
    sixteen_slots (fun s : Fin 16 => some' (F := F) c (slotM rsM s.isLt))
  rw [← h]
  exact blocks_join (F := F) c cc0_scratch3 (B := Fin 16) (fun s => rsI s) rs_disj rs_cov (fun _ => Classical.arbitrary _)
theorem ag_cov : ∀ i : S16x32x1024.Idx, ∃ s : Fin 16, i ∈ agI s := fun i => ⟨i 0, (mem_ag _ i).2 rfl⟩
theorem ag_blocks (c : Dev nD) (f : Vec F S16x32x1024 .f32) :
    full (F := F) c cc0_scratch5 f = bigSep Finset.univ fun s : Fin 16 => pts (F := F) c (slotM agM s.isLt) f :=
  have h := blocks_eq (F := F) c cc0_scratch5 (B := Fin 16) (fun s => agI s) ag_disj ag_cov f
  h
theorem ag_cut (c : Dev nD) : iprop(∃ f, full (F := F) c cc0_scratch5 f)
    ⊢ iprop(some' (F := F) c (slotM agM (0 : Fin 16).isLt) ∗ bigSep Finset.univ fun j : Fin 15 => some' (F := F) c (slotM agM (slot_lt j))) := by
  have h : (bigSep Finset.univ fun s : Fin 16 => some' (F := F) c (slotM agM s.isLt))
      = iprop(some' (F := F) c (slotM agM (0 : Fin 16).isLt) ∗ bigSep Finset.univ fun j : Fin 15 => some' (F := F) c (slotM agM (slot_lt j))) :=
    sixteen_slots (fun s : Fin 16 => some' (F := F) c (slotM agM s.isLt))
  rw [← h]
  have e : ∀ f, full (F := F) c cc0_scratch5 f ⊢ bigSep Finset.univ fun s : Fin 16 => some' (F := F) c (slotM agM s.isLt) := fun f => by
    have e1 : ∀ s : Fin 16, pts (F := F) c (slotM agM s.isLt) f ⊢ some' (F := F) c (slotM agM s.isLt) := fun s => some_intro c (slotM agM s.isLt) f
    exact (Entails.of_eq (ag_blocks c f)).trans (bigSep_mono fun s _ => e1 s)
  iintro ⟨%f, H⟩
  iapply (e f); iexact H
theorem ag_whole (c : Dev nD) : iprop(some' (F := F) c (slotM agM (0 : Fin 16).isLt) ∗ bigSep Finset.univ fun j : Fin 15 => some' (F := F) c (slotM agM (slot_lt j)))
    ⊢ iprop(∃ f, full (F := F) c cc0_scratch5 f) := by
  have h : (bigSep Finset.univ fun s : Fin 16 => some' (F := F) c (slotM agM s.isLt))
      = iprop(some' (F := F) c (slotM agM (0 : Fin 16).isLt) ∗ bigSep Finset.univ fun j : Fin 15 => some' (F := F) c (slotM agM (slot_lt j))) :=
    sixteen_slots (fun s : Fin 16 => some' (F := F) c (slotM agM s.isLt))
  rw [← h]
  exact blocks_join (F := F) c cc0_scratch5 (B := Fin 16) (fun s => agI s) ag_disj ag_cov (fun _ => Classical.arbitrary _)
theorem rl_cov : ∀ i : S16x32x8.Idx, ∃ s : Fin 16, i ∈ rlI s := fun i => ⟨i 0, (mem_rl _ i).2 rfl⟩
theorem rl_blocks (c : Dev nD) (f : Vec F S16x32x8 .f32) :
    full (F := F) c cc0_scratch4 f = bigSep Finset.univ fun s : Fin 16 => pts (F := F) c (lslotM s.isLt) f :=
  have h := blocks_eq (F := F) c cc0_scratch4 (B := Fin 16) (fun s => rlI s) rl_disj rl_cov f
  h
theorem rl_cut (c : Dev nD) : iprop(∃ f, full (F := F) c cc0_scratch4 f)
    ⊢ iprop(some' (F := F) c (lslotM (0 : Fin 16).isLt) ∗ bigSep Finset.univ fun j : Fin 15 => some' (F := F) c (lslotM (slot_lt j))) := by
  have h : (bigSep Finset.univ fun s : Fin 16 => some' (F := F) c (lslotM s.isLt))
      = iprop(some' (F := F) c (lslotM (0 : Fin 16).isLt) ∗ bigSep Finset.univ fun j : Fin 15 => some' (F := F) c (lslotM (slot_lt j))) :=
    sixteen_slots (fun s : Fin 16 => some' (F := F) c (lslotM s.isLt))
  rw [← h]
  have e : ∀ f, full (F := F) c cc0_scratch4 f ⊢ bigSep Finset.univ fun s : Fin 16 => some' (F := F) c (lslotM s.isLt) := fun f => by
    have e1 : ∀ s : Fin 16, pts (F := F) c (lslotM s.isLt) f ⊢ some' (F := F) c (lslotM s.isLt) := fun s => some_intro c (lslotM s.isLt) f
    exact (Entails.of_eq (rl_blocks c f)).trans (bigSep_mono fun s _ => e1 s)
  iintro ⟨%f, H⟩
  iapply (e f); iexact H
theorem rl_whole (c : Dev nD) : iprop(some' (F := F) c (lslotM (0 : Fin 16).isLt) ∗ bigSep Finset.univ fun j : Fin 15 => some' (F := F) c (lslotM (slot_lt j)))
    ⊢ iprop(∃ f, full (F := F) c cc0_scratch4 f) := by
  have h : (bigSep Finset.univ fun s : Fin 16 => some' (F := F) c (lslotM s.isLt))
      = iprop(some' (F := F) c (lslotM (0 : Fin 16).isLt) ∗ bigSep Finset.univ fun j : Fin 15 => some' (F := F) c (lslotM (slot_lt j))) :=
    sixteen_slots (fun s : Fin 16 => some' (F := F) c (lslotM s.isLt))
  rw [← h]
  exact blocks_join (F := F) c cc0_scratch4 (B := Fin 16) (fun s => rlI s) rl_disj rl_cov (fun _ => Classical.arbitrary _)
theorem acc_cov : ∀ i : S512x1024.Idx, ∃ s : Dev nD, i ∈ accI s := fun i => ⟨rB (i 0), (mem_acc _ i).2 rfl⟩
theorem acc_cut (c : Dev nD) (f : Vec F S512x1024 .f32) :
    full c cc0_scratch1 f = iprop(pts c (accB c) f ∗ bigSep Finset.univ fun j : Fin 15 => pts c (accB (peer c j)) f) :=
  have h : full c cc0_scratch1 f = bigSep Finset.univ fun d : Dev nD => pts (F := F) c (accB d) f :=
    blocks_eq (F := F) c cc0_scratch1 (B := Dev nD) (fun d => accI d) acc_disj acc_cov f
  h.trans (sixteen_devs c fun d : Dev nD => pts (F := F) c (accB d) f)
theorem l_cov : ∀ i : S512x8.Idx, ∃ s : Dev nD, i ∈ lI s := fun i => ⟨rB (i 0), (mem_l _ i).2 rfl⟩
theorem l_cut (c : Dev nD) (f : Vec F S512x8 .f32) :
    full c cc0_scratch2 f = iprop(pts c (lB c) f ∗ bigSep Finset.univ fun j : Fin 15 => pts c (lB (peer c j)) f) :=
  have h : full c cc0_scratch2 f = bigSep Finset.univ fun d : Dev nD => pts (F := F) c (lB d) f :=
    blocks_eq (F := F) c cc0_scratch2 (B := Dev nD) (fun d => lI d) l_disj l_cov f
  h.trans (sixteen_devs c fun d : Dev nD => pts (F := F) c (lB d) f)

/-- What of the buffer of the device's result rows stays while its fifteen sends read it. -/
def finRest (c : Dev nD) : sProp 𝕄 :=
  (finM : Memref sig .tc .vmem S32x1024 .f32).view.loc (c : Thread nD τ) ↦[(finM : Memref sig .tc .vmem S32x1024 .f32).view.set]{Transfers.shareDrop fullShare 15} yF m c
theorem fin_set (c : Dev nD) : full c cc0_scratch6 (yF m c)
    = ((finM : Memref sig .tc .vmem S32x1024 .f32).view.loc (c : Thread nD τ) ↦[(finM : Memref sig .tc .vmem S32x1024 .f32).view.set]{fullShare} yF m c) := by
  rw [show (finM : Memref sig .tc .vmem S32x1024 .f32).view.set = Finset.univ from View.set_whole _]
theorem fin_cut (c : Dev nD) : full c cc0_scratch6 (yF m c) ⊢ iprop(finRest m c ∗ bigSep Finset.univ fun j : Fin 15 => kpay m c 4 j) := by
  rw [fin_set]; exact Transfers.pointsTo_toks_split fullShare 15
theorem fin_whole (c : Dev nD) : iprop(finRest m c ∗ bigSep Finset.univ fun j : Fin 15 => kpay m c 4 j) ⊢ full c cc0_scratch6 (yF m c) := by
  rw [fin_set]; exact Transfers.pointsTo_toks_join fullShare 15

/-! ## The phases -/

def tokB (c : Dev nD) (j : Fin 15) : sProp 𝕄 := dutyTok (ER (F := F)) (bar (peer c j)) 0 (Fin.rev j)
def tokS (c : Dev nD) (j : Fin 15) : sProp 𝕄 :=
  iprop((dutyTok (ER (F := F)) (kc c 0 j) 0 0 ∗ dutyTok (ER (F := F)) (kc (peer c j) 1 j) 0 0)
      ∗ dutyTok (ER (F := F)) (kc c 2 j) 0 0 ∗ dutyTok (ER (F := F)) (kc (peer c j) 3 j) 0 0)
def tokG (c : Dev nD) (j : Fin 15) : sProp 𝕄 := iprop(dutyTok (ER (F := F)) (kc c 4 j) 0 0 ∗ dutyTok (ER (F := F)) (kc (peer c j) 5 j) 0 0)
def posO (c : Dev nD) (j : Fin 15) : sProp 𝕄 := iprop(atPos (ER (F := F)) (kc c 0 j) 0 ∅ 0 ∗ atPos (ER (F := F)) (kc c 2 j) 0 ∅ 0)
def posG (c : Dev nD) (j : Fin 15) : sProp 𝕄 := atPos (ER (F := F)) (kc c 4 j) 0 ∅ 0

theorem signals (c : Dev nD) :
    iprop(Rec m K ∗ ow (F := F) c (O₀ c) ∗ bigSep Finset.univ (fun j => tokB (F := F) c j) ∗ bigSep Finset.univ (fun j => slots (F := F) c j))
      ⊢ Wp c (loop 15 (fun j _ => signalP c j) PUnit.unit) (fun _ => ow (F := F) c (O₁ c)) := by
  have hloop := wp_loop c (Rec m K) 15 (fun j _ => signalP c j) (fun n _ => ow (F := F) c (O₁ c + owedFrom (tB c) n))
    (fun j => iprop(dutyTok (ER (F := F)) (bar (peer c j)) 0 (Fin.rev j) ∗ slots (F := F) c (Fin.rev j))) (fun _ => iprop(emp))
    (fun j u => signal_step m K c j u) PUnit.unit
  rw [bigSep_univ_equiv Fin.revPerm (fun j => slots (F := F) c j)]
  iintro ⟨#HR, Ho, Ht, Hs⟩
  ihave H := hloop $$ [Ho Ht Hs]
  · isplitr; · iexact HR
    isplitl [Ho]; · iexact Ho
    iapply (bs_join (A := fun j => tokB (F := F) c j) (B := fun j => slots (F := F) c (Fin.revPerm j)) fun j => by
      unfold tokB; exact Entails.refl _)
    isplitl [Ht]; · iexact Ht
    iexact Hs
  iapply (wp_wand _ _ _) $$ H
  iintro %b ⟨Ho, -⟩
  rw [owedFrom_end, add_zero]
  iexact Ho

theorem sends (c : Dev nD) :
    iprop(Rec m K ∗ ow (F := F) c (O₁ c) ∗ bigSep Finset.univ (fun j => sR m c j))
      ⊢ Wp c (loop 15 (fun j _ => (sendOP c j).bind fun _ => sendLP c j) PUnit.unit) (fun _ => iprop(ow (F := F) c (O₂ c) ∗ bigSep Finset.univ (fun j => sS (F := F) c j))) := by
  have hloop := wp_loop c (Rec m K) 15 (fun j _ => (sendOP c j).bind fun _ => sendLP c j) (fun n _ => ow (F := F) c (O₂ c + owedFrom (tOL c) n))
    (fun j => sR m c j) (fun j => sS (F := F) c j) (fun j u => send_step m K c j u) PUnit.unit
  rw [owedFrom_end, add_zero] at hloop
  exact hloop

theorem recvs (c : Dev nD) :
    iprop(Rec m K ∗ ow (F := F) c (O₂ c) ∗ bigSep Finset.univ (fun j => rR' (F := F) c j))
      ⊢ Wp c (loop 15 (recvP c) (rowsOf c (accF m c), lrowsOf c (lF m c))) (fun b => iprop(rI m c 15 b ∗ bigSep Finset.univ (fun j => rS (F := F) c j))) := by
  have hloop := wp_loop c (Rec m K) 15 (recvP c) (rI m c) (fun j => rR' (F := F) c j) (fun j => rS (F := F) c j) (fun j u => recv_step m K c j u)
    (rowsOf c (accF m c), lrowsOf c (lF m c))
  iintro ⟨#HR, Ho, H⟩
  iapply hloop
  isplitr; · iexact HR
  isplitl [Ho]
  · unfold rI
    isplitr
    · ipureintro; rfl
    · iexact Ho
  iexact H

theorem sendGs (c : Dev nD) :
    iprop(Rec m K ∗ ow (F := F) c (O₂ c) ∗ bigSep Finset.univ (fun j => uR m c j))
      ⊢ Wp c (loop 15 (fun j _ => sendGP c j) PUnit.unit) (fun _ => iprop(ow (F := F) c 0 ∗ bigSep Finset.univ (fun j => uS (F := F) c j))) := by
  have hloop := wp_loop c (Rec m K) 15 (fun j _ => sendGP c j) (fun n _ => ow (F := F) c (owedFrom (tG c) n))
    (fun j => uR m c j) (fun j => uS (F := F) c j) (fun j u => sendG_step m K c j u) PUnit.unit
  rw [owedFrom_end] at hloop
  exact hloop

theorem gathers (c : Dev nD) :
    iprop(Rec m K ∗ iprop(gI m c 0 ∗ ow (F := F) c 0) ∗ bigSep Finset.univ (fun j => wR (F := F) c j))
      ⊢ Wp c (loop 15 (fun j _ => gatherP c j) PUnit.unit) (fun _ => iprop((full c cc0_stg3_0 (outF m) ∗ ow (F := F) c 0) ∗ bigSep Finset.univ (fun j => wS (F := F) c j))) := by
  have hloop := wp_loop c (Rec m K) 15 (fun j _ => gatherP c j) (fun n _ => iprop(gI m c n ∗ ow (F := F) c 0))
    (fun j => wR (F := F) c j) (fun j => wS (F := F) c j) (fun j u => gather_step m K c j u) PUnit.unit
  refine hloop.trans (wp_mono _ _ _ fun _ => ?_)
  unfold gI
  iintro ⟨⟨⟨%f, %hf, Hf⟩, Ho⟩, H⟩
  obtain rfl : f = outF m := funext fun i => hf i (by omega)
  isplitl [Hf Ho]
  · isplitl [Hf] <;> iassumption
  iexact H

theorem sents (c : Dev nD) :
    iprop(Rec m K ∗ ow (F := F) c 0 ∗ bigSep Finset.univ (fun j => vR (F := F) c j))
      ⊢ Wp c (loop 15 (fun j _ => sentP c j) PUnit.unit) (fun _ => iprop(ow (F := F) c 0 ∗ bigSep Finset.univ (fun j => vS m c j))) :=
  wp_loop c (Rec m K) 15 (fun j _ => sentP c j) (fun n _ => ow (F := F) c 0)
    (fun j => vR (F := F) c j) (fun j => vS m c j) (fun j u => sent_step m K c j u) PUnit.unit
theorem sentGs (c : Dev nD) :
    iprop(Rec m K ∗ ow (F := F) c 0 ∗ bigSep Finset.univ (fun j => gR (F := F) c j))
      ⊢ Wp c (loop 15 (fun j _ => sentGP j) PUnit.unit) (fun _ => iprop(ow (F := F) c 0 ∗ bigSep Finset.univ (fun j => gS m c j))) :=
  wp_loop c (Rec m K) 15 (fun j _ => sentGP j) (fun n _ => ow (F := F) c 0)
    (fun j => gR (F := F) c j) (fun j => gS m c j) (fun j u => sentG_step m K c j u) PUnit.unit

end Cert.KernelIdeal.Body

end
-- ==== Proof.Device.lean ====
/- A device's whole run, from what the launch gives it to what it leaves. -/
module

public import proofs.«01_k».proof.Proof.Whole

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × Cell → ℕ)

variable (m : (ℓ : Loc nD τ sig) → Buf (Elt F) ℓ) (K : Dev nD × Cell → ℕ)

/-- A device's nine buffers of its own, holding anything. -/
def scr (c : Dev nD) : sProp 𝕄 :=
  iprop((∃ f, full (F := F) c cc0_scratch0 f) ∗ (∃ f, full (F := F) c cc0_scratch1 f) ∗ (∃ f, full (F := F) c cc0_scratch2 f)
    ∗ (∃ f, full (F := F) c cc0_scratch3 f) ∗ (∃ f, full (F := F) c cc0_scratch4 f) ∗ (∃ f, full (F := F) c cc0_scratch5 f)
    ∗ (∃ f, full (F := F) c cc0_scratch6 f) ∗ (∃ f, full (F := F) c cc0_scratch7 f) ∗ (∃ f, full (F := F) c cc0_scratch8 f))
/-- What the exchanges need: credits, positions and tokens. -/
def exch (c : Dev nD) : sProp 𝕄 :=
  iprop((cred (tallyAt (bar c) () 15) ∗ atPos (ER (F := F)) (bar c) 0 ∅ 0)
    ∗ bigSep Finset.univ (fun j => tokB (F := F) c j) ∗ bigSep Finset.univ (fun j => tokS (F := F) c j) ∗ bigSep Finset.univ (fun j => tokG (F := F) c j)
    ∗ bigSep Finset.univ (fun j => rR' (F := F) c j) ∗ bigSep Finset.univ (fun j => wR (F := F) c j)
    ∗ bigSep Finset.univ (fun j => posO (F := F) c j) ∗ bigSep Finset.univ (fun j => posG (F := F) c j))
/-- The semaphores of repetition `j` at zero. -/
def zers (c : Dev nD) (j : Fin 15) : sProp 𝕄 :=
  iprop((semVal (kc c 0 j) 0 ∗ semVal (kc c 2 j) 0) ∗ (semVal (kc c 1 j) 0 ∗ semVal (kc c 3 j) 0) ∗ semVal (kc c 4 j) 0 ∗ semVal (kc c 5 j) 0)
def devPre (c : Dev nD) : sProp 𝕄 :=
  iprop(ow (F := F) c (O₀ c) ∗ exch (F := F) c
    ∗ (full c cc0_stg0_0 (xA m c) ∗ full c cc0_stg1_0 (wqA m c) ∗ full c cc0_stg2_0 (woA m c) ∗ ∃ f, full (F := F) c cc0_stg3_0 f)
    ∗ (full c main_arg2 (kA m c) ∗ full c main_arg3 (vA m c)) ∗ scr (F := F) c
    ∗ semVal ((c : Thread nD τ), .dma ksem) 0 ∗ semVal ((c : Thread nD τ), .dma vsem) 0)
def devPost (c : Dev nD) : sProp 𝕄 :=
  iprop(ow (F := F) c 0 ∗ (semVal (bar c) 0 ∗ bigSep Finset.univ (fun j => zers (F := F) c j))
    ∗ (full c cc0_stg0_0 (xA m c) ∗ full c cc0_stg1_0 (wqA m c) ∗ full c cc0_stg2_0 (woA m c) ∗ full c cc0_stg3_0 (outF m))
    ∗ (full c main_arg2 (kA m c) ∗ full c main_arg3 (vA m c)) ∗ scr (F := F) c
    ∗ semVal ((c : Thread nD τ), .dma ksem) 0 ∗ semVal ((c : Thread nD τ), .dma vsem) 0)

theorem bs_join3 {n : ℕ} {A B C E : Fin n → sProp 𝕄} (h : ∀ j, iprop(A j ∗ B j ∗ C j) ⊢ E j) :
    iprop(bigSep Finset.univ A ∗ bigSep Finset.univ B ∗ bigSep Finset.univ C) ⊢ bigSep Finset.univ E := by
  rw [← bigSep_sep', ← bigSep_sep']; exact bigSep_mono fun j _ => h j
theorem bs_join4 {n : ℕ} {A B C D E : Fin n → sProp 𝕄} (h : ∀ j, iprop(A j ∗ B j ∗ C j ∗ D j) ⊢ E j) :
    iprop(bigSep Finset.univ A ∗ bigSep Finset.univ B ∗ bigSep Finset.univ C ∗ bigSep Finset.univ D) ⊢ bigSep Finset.univ E := by
  rw [← bigSep_sep', ← bigSep_sep', ← bigSep_sep']; exact bigSep_mono fun j _ => h j
theorem bs_join22 {n : ℕ} {A B C D E : Fin n → sProp 𝕄} (h : ∀ j, iprop((A j ∗ B j) ∗ C j ∗ D j) ⊢ E j) :
    iprop((bigSep Finset.univ A ∗ bigSep Finset.univ B) ∗ bigSep Finset.univ C ∗ bigSep Finset.univ D) ⊢ bigSep Finset.univ E := by
  rw [← bigSep_sep', ← bigSep_sep', ← bigSep_sep']; exact bigSep_mono fun j _ => h j
theorem bs_cut3 {n : ℕ} {A B C E : Fin n → sProp 𝕄} (h : ∀ j, E j ⊢ iprop(A j ∗ B j ∗ C j)) :
    bigSep Finset.univ E ⊢ iprop(bigSep Finset.univ A ∗ bigSep Finset.univ B ∗ bigSep Finset.univ C) := by
  rw [← bigSep_sep', ← bigSep_sep']; exact bigSep_mono fun j _ => h j

theorem slots_join (c : Dev nD) :
    iprop(bigSep Finset.univ (fun j : Fin 15 => some' (F := F) c (slotM rsM (slot_lt j))) ∗ bigSep Finset.univ (fun j : Fin 15 => some' (F := F) c (lslotM (slot_lt j)))
      ∗ bigSep Finset.univ (fun j : Fin 15 => some' (F := F) c (slotM agM (slot_lt j)))) ⊢ bigSep Finset.univ (fun j => slots (F := F) c j) :=
  bs_join3 fun j => by unfold slots; exact Entails.refl _

/-- What the barrier brings: the peers' slots of the first exchange, and those of the second. -/
theorem slots_got (c : Dev nD) : bigSep Finset.univ (fun j => slots (F := F) (peer c j) j)
    ⊢ iprop(bigSep Finset.univ (fun j : Fin 15 => iprop(some' (F := F) (peer c j) (slotM rsM (slot_lt j)) ∗ some' (F := F) (peer c j) (lslotM (slot_lt j))))
      ∗ bigSep Finset.univ (fun j : Fin 15 => some' (F := F) (peer c j) (slotM agM (slot_lt j)))) :=
  bs_cut fun j => by
    unfold slots
    iintro ⟨H1, H2, H3⟩
    isplitl [H1 H2]
    · isplitl [H1]; · iexact H1
      iexact H2
    iexact H3
theorem sR_join (c : Dev nD) :
    iprop((bigSep Finset.univ (fun j : Fin 15 => pts c (accB (peer c j)) (accF m c)) ∗ bigSep Finset.univ (fun j : Fin 15 => pts c (lB (peer c j)) (lF m c)))
      ∗ bigSep Finset.univ (fun j : Fin 15 => iprop(some' (F := F) (peer c j) (slotM rsM (slot_lt j)) ∗ some' (F := F) (peer c j) (lslotM (slot_lt j))))
      ∗ bigSep Finset.univ (fun j => tokS (F := F) c j)) ⊢ bigSep Finset.univ (fun j => sR m c j) :=
  bs_join22 fun j => by unfold sR tokS; exact Entails.refl _
theorem uR_join (c : Dev nD) :
    iprop(bigSep Finset.univ (fun j : Fin 15 => kpay m c 4 j) ∗ bigSep Finset.univ (fun j : Fin 15 => some' (F := F) (peer c j) (slotM agM (slot_lt j)))
      ∗ bigSep Finset.univ (fun j => tokG (F := F) c j)) ⊢ bigSep Finset.univ (fun j => uR m c j) :=
  bs_join3 fun j => by unfold uR tokG; exact Entails.refl _
theorem vR_join (c : Dev nD) :
    iprop(bigSep Finset.univ (fun j => sS (F := F) c j) ∗ bigSep Finset.univ (fun j => posO (F := F) c j)) ⊢ bigSep Finset.univ (fun j => vR (F := F) c j) :=
  bs_join fun j => by
    unfold sS posO vR
    iintro ⟨⟨H1, H2⟩, H3, H4⟩
    isplitl [H1 H3]
    · isplitl [H1]; · iexact H1
      iexact H3
    isplitl [H2]; · iexact H2
    iexact H4
theorem gR_join (c : Dev nD) :
    iprop(bigSep Finset.univ (fun j => uS (F := F) c j) ∗ bigSep Finset.univ (fun j => posG (F := F) c j)) ⊢ bigSep Finset.univ (fun j => gR (F := F) c j) :=
  bs_join fun j => by unfold gR posG; exact Entails.refl _
theorem rS_cut (c : Dev nD) : bigSep Finset.univ (fun j => rS (F := F) c j)
    ⊢ iprop(bigSep Finset.univ (fun j : Fin 15 => iprop(semVal (kc c 1 j) 0 ∗ semVal (kc c 3 j) 0))
      ∗ bigSep Finset.univ (fun j : Fin 15 => some' (F := F) c (slotM rsM (slot_lt j))) ∗ bigSep Finset.univ (fun j : Fin 15 => some' (F := F) c (lslotM (slot_lt j)))) :=
  bs_cut3 fun j => by unfold rS; exact Entails.refl _
theorem wS_cut (c : Dev nD) : bigSep Finset.univ (fun j => wS (F := F) c j)
    ⊢ iprop(bigSep Finset.univ (fun j : Fin 15 => semVal (kc c 5 j) 0) ∗ bigSep Finset.univ (fun j : Fin 15 => some' (F := F) c (slotM agM (slot_lt j)))) :=
  bs_cut fun j => by unfold wS; exact Entails.refl _
theorem vS_cut (c : Dev nD) : bigSep Finset.univ (fun j => vS m c j)
    ⊢ iprop(bigSep Finset.univ (fun j : Fin 15 => iprop(semVal (kc c 0 j) 0 ∗ semVal (kc c 2 j) 0))
      ∗ bigSep Finset.univ (fun j : Fin 15 => pts c (accB (peer c j)) (accF m c)) ∗ bigSep Finset.univ (fun j : Fin 15 => pts c (lB (peer c j)) (lF m c))) :=
  bs_cut3 fun j => by unfold vS; exact Entails.refl _
theorem gS_cut (c : Dev nD) : bigSep Finset.univ (fun j => gS m c j)
    ⊢ iprop(bigSep Finset.univ (fun j : Fin 15 => semVal (kc c 4 j) 0) ∗ bigSep Finset.univ (fun j : Fin 15 => kpay m c 4 j)) :=
  bs_cut fun j => by unfold gS; exact Entails.refl _
theorem zers_join (c : Dev nD) :
    iprop(bigSep Finset.univ (fun j : Fin 15 => iprop(semVal (kc c 0 j) 0 ∗ semVal (kc c 2 j) 0)) ∗ bigSep Finset.univ (fun j : Fin 15 => iprop(semVal (kc c 1 j) 0 ∗ semVal (kc c 3 j) 0))
      ∗ bigSep Finset.univ (fun j : Fin 15 => semVal (kc c 4 j) 0) ∗ bigSep Finset.univ (fun j : Fin 15 => semVal (kc c 5 j) 0))
      ⊢ (bigSep Finset.univ (fun j => zers (F := F) c j) : sProp 𝕄) :=
  bs_join4 fun j => by unfold zers; exact Entails.refl _

/-- One piece, then the rest. -/
theorem seq_step (c : Dev nD) {α β : Type} {p : P F α} {A : sProp 𝕄} {B : α → sProp 𝕄} (h : A ⊢ Wp c p B) (k : α → P F β) (Q : β → sProp 𝕄) :
    A ⊢ iprop((∀ a, B a -∗ Wp c (k a) Q) -∗ Wp c (p >>= k) Q) := by
  unfold Wp
  rw [wp_bind]
  exact h.trans (wp_wand _ _ _)

set_option maxHeartbeats 1000000 in
theorem dev_run (c : Dev nD) : iprop(Rec m K ∗ devPre m c) ⊢ Wp c (restP (F := F) c) (fun _ => devPost m c) := by
  unfold restP
  unfold devPre exch scr
  iintro ⟨#HR, Ho, ⟨⟨Hbc, Hbp⟩, HtB, HtS, HtG, HrR, HwR, HpO, HpG⟩, ⟨Hx, Hwq, Hwo, Hout⟩, ⟨Hk, Hv⟩, ⟨Hq, ⟨%fa, Ha⟩, ⟨%fl, Hl⟩, Hrs, Hrl, Hag, ⟨%ff, Hfin⟩, Hkh, Hvh⟩, Hs1, Hs2⟩
  ihave Hrs := (rs_cut c) $$ Hrs
  icases Hrs with ⟨Hrs0, Hrs⟩
  ihave Hrl := (rl_cut c) $$ Hrl
  icases Hrl with ⟨Hrl0, Hrl⟩
  ihave Hag := (ag_cut c) $$ Hag
  icases Hag with ⟨Hag0, Hag⟩
  -- the entry barrier
  iapply (seq_step c (signals m K c) _ _) $$ [Ho HtB Hrs Hrl Hag]
  · isplitr; · iexact HR
    isplitl [Ho]; · iexact Ho
    isplitl [HtB]; · iexact HtB
    iapply (slots_join c)
    isplitl [Hrs]; · iexact Hrs
    isplitl [Hrl]; · iexact Hrl
    iexact Hag
  iintro %_ Ho
  iapply (seq_step c (barrier_wait m K c) _ _) $$ [Ho Hbc Hbp]
  · isplitr; · iexact HR
    isplitl [Ho]; · iexact Ho
    isplitl [Hbc]; · iexact Hbc
    iexact Hbp
  iintro %_ ⟨Ho, Hzb, Hsl⟩
  ihave Hsl := (slots_got c) $$ Hsl
  icases Hsl with ⟨HslO, HslG⟩
  -- the queries and the heads
  iapply (seq_step c (q_step m c) _ _) $$ [Hx Hwq Hq]
  · isplitl [Hx]; · iexact Hx
    isplitl [Hwq]; · iexact Hwq
    iexact Hq
  iintro %_ ⟨Hx, Hwq, Hq⟩
  iapply (seq_step c (heads_step m K c) _ _) $$ [Ho Hk Hv Hkh Hvh Hs1 Hs2 Hq Ha Hl]
  · isplitr; · iexact HR
    unfold HS
    isplitl [Ho Hk Hv Hkh Hvh Hs1 Hs2]
    · isplitl [Ho]; · iexact Ho
      isplitl [Hk]; · iexact Hk
      isplitl [Hv]; · iexact Hv
      isplitl [Hkh]; · iexact Hkh
      isplitl [Hvh]; · iexact Hvh
      isplitl [Hs1]; · iexact Hs1
      iexact Hs2
    isplitl [Hq]; · iexact Hq
    isplitl [Ha]
    · iexists fa
      isplitr
      rotate_left
      · iexact Ha
      · ipureintro; intro i hi; exact absurd hi (Nat.not_lt_zero _)
    · iexists fl
      isplitr
      rotate_left
      · iexact Hl
      · ipureintro; intro i hi; exact absurd hi (Nat.not_lt_zero _)
  iintro %_ ⟨⟨Ho, Hk, Hv, Hkh, Hvh, Hs1, Hs2⟩, Hq, Ha, Hl⟩
  -- the first exchange
  ihave Ha := (Entails.of_eq (acc_cut c (accF m c))) $$ Ha
  icases Ha with ⟨Ha0, Ha⟩
  ihave Hl := (Entails.of_eq (l_cut c (lF m c))) $$ Hl
  icases Hl with ⟨Hl0, Hl⟩
  iapply (seq_step c (sends m K c) _ _) $$ [Ho Ha Hl HslO HtS]
  · isplitr; · iexact HR
    isplitl [Ho]; · iexact Ho
    iapply (sR_join m c)
    isplitl [Ha Hl]
    · isplitl [Ha]; · iexact Ha
      iexact Hl
    isplitl [HslO]; · iexact HslO
    iexact HtS
  iintro %_ ⟨Ho, HsS⟩
  iapply (ownO_step m c _ _) $$ Ha0
  iintro Ha0
  iapply (ownL_step m c _ _) $$ Hl0
  iintro Hl0
  iapply (seq_step c (recvs m K c) _ _) $$ [Ho HrR]
  · isplitr; · iexact HR
    isplitl [Ho]; · iexact Ho
    iexact HrR
  iintro %t ⟨Ht, HrS⟩
  unfold rI
  icases Ht with ⟨%ht, Ho⟩
  subst ht
  ihave HrS := (rS_cut c) $$ HrS
  icases HrS with ⟨Hz13, Hrs, Hrl⟩
  -- the quotients, the projection
  iapply (seq_step c (tot_step c ff (tot m c 15).1) _ _) $$ Hfin
  iintro %_ Hfin
  iapply (seq_step c (divs_step m c) _ _) $$ Hfin
  iintro %_ Hfin
  iapply (seq_step c (proj_step m c) _ _) $$ [Hfin Hwo Hout]
  · isplitl [Hfin]; · iexact Hfin
    isplitl [Hwo]; · iexact Hwo
    iexact Hout
  iintro %_ ⟨Hfin, Hwo, Hout⟩
  -- the second exchange
  ihave Hfin := (fin_cut m c) $$ Hfin
  icases Hfin with ⟨Hfin0, Hfin⟩
  iapply (seq_step c (sendGs m K c) _ _) $$ [Ho Hfin HslG HtG]
  · isplitr; · iexact HR
    isplitl [Ho]; · iexact Ho
    iapply (uR_join m c)
    isplitl [Hfin]; · iexact Hfin
    isplitl [HslG]; · iexact HslG
    iexact HtG
  iintro %_ ⟨Ho, HuS⟩
  iapply (seq_step c (gathers m K c) _ _) $$ [Ho Hout HwR]
  · isplitr; · iexact HR
    isplitl [Ho Hout]
    · isplitl [Hout]; · iexact Hout
      iexact Ho
    iexact HwR
  iintro %_ ⟨⟨Hout, Ho⟩, HwS⟩
  ihave HwS := (wS_cut c) $$ HwS
  icases HwS with ⟨Hz5, Hag⟩
  -- the sends end
  iapply (seq_step c (sents m K c) _ _) $$ [Ho HsS HpO]
  · isplitr; · iexact HR
    isplitl [Ho]; · iexact Ho
    iapply (vR_join c)
    isplitl [HsS]; · iexact HsS
    iexact HpO
  iintro %_ ⟨Ho, HvS⟩
  ihave HvS := (vS_cut m c) $$ HvS
  icases HvS with ⟨Hz02, Ha, Hl⟩
  ihave H := (sentGs m K c) $$ [Ho HuS HpG]
  · isplitr; · iexact HR
    isplitl [Ho]; · iexact Ho
    iapply (gR_join c)
    isplitl [HuS]; · iexact HuS
    iexact HpG
  iapply (wp_wand _ _ _) $$ H
  iintro %_ ⟨Ho, HgS⟩
  ihave HgS := (gS_cut m c) $$ HgS
  icases HgS with ⟨Hz4, Hfin⟩
  -- what is left
  ihave Ha := (Entails.of_eq (acc_cut c (accF m c)).symm) $$ [Ha0 Ha]
  · isplitl [Ha0]; · iexact Ha0
    iexact Ha
  ihave Hl := (Entails.of_eq (l_cut c (lF m c)).symm) $$ [Hl0 Hl]
  · isplitl [Hl0]; · iexact Hl0
    iexact Hl
  ihave Hfin := (fin_whole m c) $$ [Hfin0 Hfin]
  · isplitl [Hfin0]; · iexact Hfin0
    iexact Hfin
  ihave Hrs := (rs_whole c) $$ [Hrs0 Hrs]
  · isplitl [Hrs0]; · iexact Hrs0
    iexact Hrs
  ihave Hrl := (rl_whole c) $$ [Hrl0 Hrl]
  · isplitl [Hrl0]; · iexact Hrl0
    iexact Hrl
  ihave Hag := (ag_whole c) $$ [Hag0 Hag]
  · isplitl [Hag0]; · iexact Hag0
    iexact Hag
  unfold devPost scr
  isplitl [Ho]; · iexact Ho
  isplitl [Hzb Hz13 Hz5 Hz02 Hz4]
  · isplitl [Hzb]; · iexact Hzb
    iapply (zers_join c)
    isplitl [Hz02]; · iexact Hz02
    isplitl [Hz13]; · iexact Hz13
    isplitl [Hz4]; · iexact Hz4
    iexact Hz5
  isplitl [Hx Hwq Hwo Hout]
  · isplitl [Hx]; · iexact Hx
    isplitl [Hwq]; · iexact Hwq
    isplitl [Hwo]; · iexact Hwo
    iexact Hout
  isplitl [Hk Hv]
  · isplitl [Hk]; · iexact Hk
    iexact Hv
  isplitl [Hq Ha Hl Hrs Hrl Hag Hfin Hkh Hvh]
  · isplitl [Hq]; · iexists _; iexact Hq
    isplitl [Ha]; · iexists _; iexact Ha
    isplitl [Hl]; · iexists _; iexact Hl
    isplitl [Hrs]; · iexact Hrs
    isplitl [Hrl]; · iexact Hrl
    isplitl [Hag]; · iexact Hag
    isplitl [Hfin]; · iexists _; iexact Hfin
    isplitl [Hkh]; · iexact Hkh
    iexact Hvh
  isplitl [Hs1]; · iexact Hs1
  iexact Hs2

end Cert.KernelIdeal.Body

end
-- ==== Proof.Ghost.lean ====
/- The launch of the exchange: its cells and tokens made, and dealt to the devices that use them. -/
module

public import proofs.«01_k».proof.Proof.Device
@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ) (K : Dev nD × Cell → ℕ)

/-! ## Cells and tokens -/

def cellAt (ck : Dev nD × Cell) : GSem nD τ sig := kcell ck.1 ck.2
theorem cellAt_inj : Function.Injective cellAt := by
  rintro ⟨c, k⟩ ⟨c', k'⟩ h
  have h1 : c = c' := congrArg (fun g : GSem nD τ sig => g.1.1) h
  have h2 : csem k = csem k' := congrArg Prod.snd h
  rw [h1, csem_inj h2]
def allCells : Finset (GSem nD τ sig) := Finset.univ.map ⟨cellAt, cellAt_inj⟩

/-- A device's duties: the barrier's fifteen, one of every other cell. -/
abbrev Tk : Type := Fin 15 ⊕ Fin 6 × Fin 15
def tokAt (ct : Dev nD × Tk) : GSem nD τ sig × ℕ × Fin 15 := match ct.2 with
  | .inl j => (bar ct.1, 0, j)
  | .inr kj => (kc ct.1 kj.1 kj.2, 0, 0)
theorem tokAt_inj : Function.Injective tokAt := by
  rintro ⟨c, t⟩ ⟨c', t'⟩ h
  rcases t with j | ⟨k, j⟩ <;> rcases t' with j' | ⟨k', j'⟩
  · have h1 : (c, (Sum.inl () : Cell)) = (c', .inl ()) := cellAt_inj (congrArg Prod.fst h)
    have h2 : j = j' := congrArg (fun x : GSem nD τ sig × ℕ × Fin 15 => x.2.2) h
    have h3 : c = c' := congrArg Prod.fst h1
    rw [h2, h3]
  · have h1 : (c, (Sum.inl () : Cell)) = (c', .inr (k', j')) := cellAt_inj (congrArg Prod.fst h)
    cases congrArg Prod.snd h1
  · have h1 : (c, (Sum.inr (k, j) : Cell)) = (c', .inl ()) := cellAt_inj (congrArg Prod.fst h)
    cases congrArg Prod.snd h1
  · have h1 : (c, (Sum.inr (k, j) : Cell)) = (c', .inr (k', j')) := cellAt_inj (congrArg Prod.fst h)
    have h2 : (k, j) = (k', j') := Sum.inr.inj (congrArg Prod.snd h1)
    have h3 : c = c' := congrArg Prod.fst h1
    rw [h3, h2]
def allToks : Finset (GSem nD τ sig × ℕ × Fin 15) := Finset.univ.map ⟨tokAt, tokAt_inj⟩

def u₀ : UU := (initOf (Pipeline.cells cfgs cellOf_inj) (Pipeline.launchToks cfgs cellOf_inj), (initOf allCells allToks, 1))

/-! ## Families over a device's cells -/

theorem bs6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

abbrev bs15 (Φ : Fin 15 → sProp 𝕄) : sProp 𝕄 := bigSep Finset.univ Φ

theorem bs_kinds (Φ : Fin 6 × Fin 15 → sProp 𝕄) : bigSep Finset.univ Φ
    = iprop(bs15 (fun j => Φ (0, j)) ∗ bs15 (fun j => Φ (1, j)) ∗ bs15 (fun j => Φ (2, j)) ∗ bs15 (fun j => Φ (3, j)) ∗ bs15 (fun j => Φ (4, j)) ∗ bs15 (fun j => Φ (5, j))) := by
  rw [bigSep_univ_prod, bs6]

theorem bs_cell (Φ : Cell → sProp 𝕄) : bigSep Finset.univ Φ
    = iprop(Φ (.inl ()) ∗ bigSep Finset.univ fun kj : Fin 6 × Fin 15 => Φ (.inr kj)) := by
  rw [bigSep_univ_sum]
  refine congrArg (fun x => iprop(x ∗ _)) ?_
  exact bigSep_univ_of_subsingleton (Φ := fun a : Unit => Φ (.inl a)) ()

/-- A device's tokens, as made. -/
def madeToks (c : Dev nD) : sProp 𝕄 :=
  bigSep Finset.univ fun t : Tk => dutyTok (ER (F := F)) (tokAt (c, t)).1 (tokAt (c, t)).2.1 (tokAt (c, t)).2.2
/-- What the launch deals device `c`. -/
def G (c : Dev nD) : sProp 𝕄 :=
  iprop((bigSep Finset.univ fun k : Cell => roundState (ER (F := F)) (rd m) (kcell c k) 0)
    ∗ (bigSep Finset.univ fun k : Cell => iprop(atPos (ER (F := F)) (kcell c k) 0 ∅ 0 ∗ reached (ER (F := F)) (kcell c k) 0)) ∗ madeToks (F := F) c)

theorem fund : BI.own ((ER (F := F)) (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell c k) := by
    unfold allCells; rw [bigSep_map, bigSep_univ_prod]; rfl
  have hT : bigSep allToks (fun x => (dutyTok (ER (F := F)) x.1 x.2.1 x.2.2 : sProp 𝕄)) = bigSep Finset.univ fun c : Dev nD => madeToks (F := F) c := by
    unfold allToks madeToks; rw [bigSep_map, bigSep_univ_prod]; rfl
  iintro HX
  imod (Rounds.fund (ER (F := F)) (rd m) allCells allToks) $$ HX with ⟨Hst, Hr, Hat, Htok⟩
  imodintro
  ihave Hst' := (Entails.of_eq (hX fun g => roundState (ER (F := F)) (rd m) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The kernel's own semaphores the run uses: the two local copies', the exchanges'. -/
def osem : Fin 2 ⊕ Fin 6 × Fin 15 → SemLoc sig
  | .inl i => if i = 0 then .dma ksem else .dma vsem
  | .inr kj => csem (.inr kj)

theorem unscopedSems0_eq (c : Dev nD) : (unscopedSems0 c : sProp 𝕄) = semVal (bar c) 0 := by
  unfold unscopedSems0; rw [bigSep_eq_bigSepL_of_eq [SemLoc.reg barS] (by decide) (by decide)]; rfl
/-- The local copies' semaphores. -/
def copySems (c : Dev nD) : sProp 𝕄 := iprop(semVal ((c : Thread nD τ), .dma ksem) 0 ∗ semVal ((c : Thread nD τ), .dma vsem) 0)
theorem bs2 (Φ : Fin 2 → sProp 𝕄) : bigSep Finset.univ Φ = iprop(Φ 0 ∗ Φ 1) :=
  bigSep_univ_eq_bigSepL [0, 1] (by decide) (by decide) Φ
theorem ownSems0_eq (c : Dev nD) : (Pipeline.ownSems0 (Ix := Unit) (Name := ℕ) (U := UU) (Lvl := ℕ) (Val := Elt F) (τ := τ) osem c : sProp 𝕄)
    = iprop(copySems (F := F) c ∗ bigSep Finset.univ fun kj : Fin 6 × Fin 15 => semVal (kcell c (.inr kj)) 0) := by
  unfold Pipeline.ownSems0 copySems
  rw [bigSep_univ_sum, bs2]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv (ER (F := F)) (rd m) κ (kcell c k)))
          ∗ (bigSep Finset.univ fun k : Cell => iprop(atPos (ER (F := F)) (kcell c k) 0 ∅ 0 ∗ reached (ER (F := F)) (kcell c k) 0)) ∗ madeToks (F := F) c ∗ copySems (F := F) c) := by
  unfold G
  rw [ownSems0_eq, unscopedSems0_eq]
  iintro ⟨⟨Hc, Hos⟩, Hus, Hst, Hat, Htok⟩
  ihave Hv := (Entails.of_eq (bs_cell (fun k : Cell => (semVal (kcell c k) 0 : sProp 𝕄))).symm) $$ [Hos Hus]
  · isplitl [Hus]; · iexact Hus
    iexact Hos
  imod (show iprop((bigSep Finset.univ fun k : Cell => semVal (kcell c k) 0) ∗ bigSep Finset.univ fun k : Cell => roundState (ER (F := F)) (rd m) (kcell c k) 0)
      ⊢ (|={Set.univ}=> bigSep Finset.univ fun k : Cell => iprop(∃ κ : ℕ, cellInv (ER (F := F)) (rd m) κ (kcell c k)) : sProp 𝕄) from by
        rw [← bigSep_sep']
        exact (bigSep_mono fun k _ => (Rounds.body_intro (ER (F := F)) (rd m) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hc

/-! ## Dealing the tokens -/

def revPeer : Dev nD × Fin 15 ≃ Dev nD × Fin 15 where
  toFun cj := (peer cj.1 cj.2, Fin.rev cj.2)
  invFun cj := (peer cj.1 cj.2, Fin.rev cj.2)
  left_inv cj := by rcases cj with ⟨c, j⟩; simp only [peer_rev, Fin.rev_rev]
  right_inv cj := by rcases cj with ⟨c, j⟩; simp only [peer_rev, Fin.rev_rev]
def toPeer : Dev nD × Fin 15 ≃ Dev nD × Fin 15 where
  toFun cj := (peer cj.1 cj.2, cj.2)
  invFun cj := (src cj.1 cj.2.val, cj.2)
  left_inv cj := by rcases cj with ⟨c, j⟩; simp only [src_peer]
  right_inv cj := by rcases cj with ⟨c, j⟩; simp only [peer_src]

/-- A family over devices and repetitions, named from the other end. -/
theorem around' (e : Dev nD × Fin 15 ≃ Dev nD × Fin 15) (Φ : Dev nD → Fin 15 → sProp 𝕄) :
    (bigSep Finset.univ fun c : Dev nD => bs15 fun j => Φ c j) = bigSep Finset.univ fun c : Dev nD => bs15 fun j => Φ (e (c, j)).1 (e (c, j)).2 := by
  rw [← bigSep_univ_prod (fun cj : Dev nD × Fin 15 => Φ cj.1 cj.2), bigSep_univ_equiv e, bigSep_univ_prod]

/-- What a device's tokens are once dealt. -/
def dealt (c : Dev nD) : sProp 𝕄 := iprop(bs15 (fun j => tokB (F := F) c j) ∗ bs15 (fun j => tokS (F := F) c j) ∗ bs15 (fun j => tokG (F := F) c j))

theorem madeToks_eq (c : Dev nD) : madeToks (F := F) c
    = iprop(bs15 (fun j => dutyTok (ER (F := F)) (bar c) 0 j) ∗ bs15 (fun j => dutyTok (ER (F := F)) (kc c 0 j) 0 0) ∗ bs15 (fun j => dutyTok (ER (F := F)) (kc c 1 j) 0 0)
      ∗ bs15 (fun j => dutyTok (ER (F := F)) (kc c 2 j) 0 0) ∗ bs15 (fun j => dutyTok (ER (F := F)) (kc c 3 j) 0 0)
      ∗ bs15 (fun j => dutyTok (ER (F := F)) (kc c 4 j) 0 0) ∗ bs15 (fun j => dutyTok (ER (F := F)) (kc c 5 j) 0 0)) := by
  unfold madeToks; rw [bigSep_univ_sum, bs_kinds]; rfl

theorem dealt_intro (c : Dev nD) :
    iprop(bs15 (fun j => dutyTok (ER (F := F)) (bar (peer c j)) 0 (Fin.rev j)) ∗ bs15 (fun j => dutyTok (ER (F := F)) (kc c 0 j) 0 0) ∗ bs15 (fun j => dutyTok (ER (F := F)) (kc (peer c j) 1 j) 0 0)
      ∗ bs15 (fun j => dutyTok (ER (F := F)) (kc c 2 j) 0 0) ∗ bs15 (fun j => dutyTok (ER (F := F)) (kc (peer c j) 3 j) 0 0)
      ∗ bs15 (fun j => dutyTok (ER (F := F)) (kc c 4 j) 0 0) ∗ bs15 (fun j => dutyTok (ER (F := F)) (kc (peer c j) 5 j) 0 0))
    ⊢ dealt (F := F) c := by
  unfold dealt
  iintro ⟨HB, H0, H1, H2, H3, H4, H5⟩
  isplitl [HB]
  · unfold tokB; iexact HB
  isplitl [H0 H1 H2 H3]
  · have e : ∀ j : Fin 15, iprop((dutyTok (ER (F := F)) (kc c 0 j) 0 0 ∗ dutyTok (ER (F := F)) (kc (peer c j) 1 j) 0 0)
        ∗ dutyTok (ER (F := F)) (kc c 2 j) 0 0 ∗ dutyTok (ER (F := F)) (kc (peer c j) 3 j) 0 0) ⊢ tokS (F := F) c j := fun j => Entails.refl _
    iapply (bs_join22 e)
    isplitl [H0 H1]
    · isplitl [H0]; · iexact H0
      iexact H1
    isplitl [H2]; · iexact H2
    iexact H3
  · have e : ∀ j : Fin 15, iprop(dutyTok (ER (F := F)) (kc c 4 j) 0 0 ∗ dutyTok (ER (F := F)) (kc (peer c j) 5 j) 0 0) ⊢ tokG (F := F) c j := fun j => Entails.refl _
    iapply (bs_join e)
    isplitl [H4]; · iexact H4
    iexact H5

theorem toks_around : (bigSep Finset.univ fun c : Dev nD => madeToks (F := F) c) ⊢ bigSep Finset.univ fun c : Dev nD => dealt (F := F) c := by
  refine BIBase.Entails.trans ?_ (bigSep_mono fun c _ => dealt_intro c)
  simp only [madeToks_eq, bigSep_sep']
  rw [around' revPeer (fun c j => dutyTok (ER (F := F)) (bar c) 0 j), around' toPeer (fun c j => dutyTok (ER (F := F)) (kc c 1 j) 0 0),
    around' toPeer (fun c j => dutyTok (ER (F := F)) (kc c 3 j) 0 0), around' toPeer (fun c j => dutyTok (ER (F := F)) (kc c 5 j) 0 0)]
  exact Entails.refl _

/-! ## What each device starts with -/

/-- A device's positions. -/
def poss (c : Dev nD) : sProp 𝕄 := bigSep Finset.univ fun k : Cell => atPos (ER (F := F)) (kcell c k) 0 ∅ 0
def lin (c : Dev nD) : sProp 𝕄 := iprop(poss (F := F) c ∗ dealt (F := F) c ∗ copySems (F := F) c)
def G' (c : Dev nD) : sProp 𝕄 := iprop(∃ K : Dev nD × Cell → ℕ, (recInv m K ∗ recReached (F := F)) ∗ lin (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv (ER (F := F)) (rd m) κ (kcell c k)))
          ∗ (bigSep Finset.univ fun k : Cell => iprop(atPos (ER (F := F)) (kcell c k) 0 ∅ 0 ∗ reached (ER (F := F)) (kcell c k) 0)) ∗ madeToks (F := F) c ∗ copySems (F := F) c) : sProp 𝕄)
      ⊢ bigSep Finset.univ (G' m) := by
  rw [bigSep_sep', bigSep_sep', bigSep_sep', ← bigSep_univ_prod (fun ck : Dev nD × Cell => iprop(∃ κ : ℕ, cellInv (ER (F := F)) (rd m) κ (kcell ck.1 ck.2))),
    bigSep_congr (s := Finset.univ) (fun (c : Dev nD) _ => bigSep_sep' Finset.univ (fun k : Cell => (atPos (ER (F := F)) (kcell c k) 0 ∅ 0 : sProp 𝕄)) (fun k => reached (ER (F := F)) (kcell c k) 0)),
    bigSep_sep', ← bigSep_univ_prod (fun ck : Dev nD × Cell => (reached (ER (F := F)) (kcell ck.1 ck.2) 0 : sProp 𝕄))]
  iintro ⟨HI, ⟨Hat, #HR⟩, Htok, Hc⟩
  ihave HK := (BI.bigSep_exists_pi Finset.univ (fun (ck : Dev nD × Cell) (κ : ℕ) => (cellInv (ER (F := F)) (rd m) κ (kcell ck.1 ck.2) : sProp 𝕄))) $$ HI
  icases HK with ⟨%K, #HI⟩
  ihave Htk := (toks_around (F := F)) $$ Htok
  have h : ∀ c ∈ (Finset.univ : Finset (Dev nD)), iprop((recInv m K ∗ recReached (F := F)) ∗ lin (F := F) c) ⊢ G' m c := fun c _ => by
    unfold G'; iintro H; iexists K; iexact H
  iapply (with_persistent (R := iprop(recInv m K ∗ recReached (F := F))) h)
  isplitr
  · unfold recInv recReached; isplitl; · iexact HI
    iexact HR
  · unfold lin
    rw [bigSep_sep', bigSep_sep']
    isplitl [Hat]; · unfold poss; iexact Hat
    isplitl [Htk]; · iexact Htk
    iexact Hc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Body

end
-- ==== Proof.Credits.lean ====
/- What the launch lets each device wait for: the units the sixteen devices together owe its semaphores. -/
module

public import proofs.«01_k».proof.Proof.Ghost
@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-- What fifteen repetitions owe one cell. -/
theorem owedFrom_apply (t : Fin 15 → CellTallies nD τ sig Unit) (g : GSem nD τ sig) : owedFrom t 0 g () = ∑ j, t j g () := by
  unfold owedFrom
  rw [Finset.filter_true_of_mem (fun _ _ => Nat.zero_le _), Finset.sum_apply, Finsupp.finset_sum_apply]

theorem kcell_eq_iff (c c' : Dev nD) (k k' : Cell) : (kcell c k = kcell c' k') ↔ (c = c' ∧ k = k') :=
  ⟨fun h => by have h' : ((c, k) : Dev nD × Cell) = (c', k') := cellAt_inj h; exact ⟨congrArg Prod.fst h', congrArg Prod.snd h'⟩,
   fun h => by rw [h.1, h.2]⟩

theorem tallyAt_kcell (c c' : Dev nD) (k k' : Cell) (v : ℕ) :
    (tallyAt (kcell c' k') () v : CellTallies nD τ sig Unit) (kcell c k) () = if c = c' ∧ k = k' then v else 0 := by
  rw [tallyAt_apply]
  refine if_congr ?_ rfl rfl
  rw [kcell_eq_iff]; exact ⟨fun h => h.1, fun h => ⟨h, rfl⟩⟩

/-- Over all devices, repetition `j` reaches each device once. -/
theorem sum_reach (c : Dev nD) (κ : Fin 15 → Cell) (k : Cell) (v : ℕ) :
    ∑ d : Dev nD, ∑ j : Fin 15, (tallyAt (kcell (peer d j) (κ j)) () v : CellTallies nD τ sig Unit) (kcell c k) ()
      = ∑ j : Fin 15, if k = κ j then v else 0 := by
  rw [Finset.sum_comm]
  refine Finset.sum_congr rfl fun j _ => ?_
  rw [Finset.sum_congr rfl fun d _ => tallyAt_kcell c (peer d j) k (κ j) v, Finset.sum_eq_single (src c j.val)]
  · refine if_congr ?_ rfl rfl
    rw [peer_src]; exact ⟨fun h => h.2, fun h => ⟨rfl, h⟩⟩
  · intro d _ hd
    rw [if_neg]; rintro ⟨h, -⟩; exact hd (by rw [h, src_peer])
  · intro h; exact absurd (Finset.mem_univ _) h

/-- The units owed to a cell at the start. -/
def due : Cell → ℕ
  | .inl _ => 15
  | .inr (k, _) => if k = 1 then NO else if k = 3 then NL else if k = 5 then NO else 0

theorem sum_O₀ (c : Dev nD) (k : Cell) : ∑ d : Dev nD, O₀ d (kcell c k) () = due k := by
  have h : ∀ d : Dev nD, O₀ d (kcell c k) () = ((∑ j, tG d j (kcell c k) ()) + ((∑ j, tL d j (kcell c k) ()) + ∑ j, tO d j (kcell c k) ())) + ∑ j, tB d j (kcell c k) () := fun d => by
    unfold O₀ O₁ O₂
    have h' : ∀ j, tOL d j (kcell c k) () = tL d j (kcell c k) () + tO d j (kcell c k) () := fun j => by
      unfold tOL; rw [Pi.add_apply, Finsupp.add_apply]
    rw [Pi.add_apply, Finsupp.add_apply, Pi.add_apply, Finsupp.add_apply, owedFrom_apply, owedFrom_apply, owedFrom_apply,
      Finset.sum_congr rfl fun j _ => h' j, Finset.sum_add_distrib]
  rw [Finset.sum_congr rfl fun d _ => h d, Finset.sum_add_distrib, Finset.sum_add_distrib, Finset.sum_add_distrib]
  unfold tG tL tO tB
  rw [sum_reach c (fun j => .inr (5, j)), sum_reach c (fun j => .inr (3, j)), sum_reach c (fun j => .inr (1, j)), sum_reach c (fun _ => .inl ())]
  rcases k with _ | ⟨k, i⟩
  · unfold due; generalize NO = a; generalize NL = b; simp
  · have e : ∀ (a : Fin 6) (v : ℕ), (∑ j : Fin 15, if (Sum.inr (k, i) : Cell) = .inr (a, j) then v else 0) = if k = a then v else 0 := fun a v => by
      by_cases hk : k = a
      · subst hk
        rw [if_pos rfl, Finset.sum_eq_single i]
        · rw [if_pos rfl]
        · intro j _ hj; rw [if_neg]; intro h; exact hj (congrArg Prod.snd (Sum.inr.inj h)).symm
        · intro h; exact absurd (Finset.mem_univ _) h
      · rw [if_neg hk]
        refine Finset.sum_eq_zero fun j _ => ?_
        rw [if_neg]; intro h; exact hk (congrArg Prod.fst (Sum.inr.inj h))
    rw [e 5, e 3, e 1]
    unfold due
    generalize NO = a; generalize NL = b
    clear e h
    revert k; intro k; fin_cases k <;> simp

theorem launch_at (c : Dev nD) (k : Cell) :
    tallyOn (kcell c k) (launchCredit (Pipeline.owing O₀) 0 (kcell c k)) = (tallyAt (kcell c k) () (due k) : CellTallies nD τ sig Unit) := by
  unfold tallyAt; refine congrArg _ (Finsupp.ext fun u => ?_); cases u
  rw [Pipeline.launchCredit_owing, Finsupp.single_eq_same, sum_O₀]

/-- The credits a device starts with. -/
def creds (c : Dev nD) : sProp 𝕄 := bigSep Finset.univ fun k : Cell => cred (tallyAt (kcell c k) () (due k))

theorem creds_intro (c : Dev nD) : (Pipeline.launchCred O₀ c : sProp 𝕄) ⊢ creds (F := F) c := by
  unfold Pipeline.launchCred creds
  refine BIBase.Entails.trans (bigSep_subset (t := Finset.univ.map ⟨csem, csem_inj⟩) (Finset.subset_univ _)) ?_
  rw [bigSep_map]
  exact bigSep_mono fun k _ => Entails.of_eq (congrArg cred (launch_at c k))

/-- Positions, credits and tokens as the run uses them. -/
theorem exch_intro (c : Dev nD) : iprop(creds (F := F) c ∗ poss (F := F) c ∗ dealt (F := F) c) ⊢ exch (F := F) c := by
  unfold creds poss dealt exch
  rw [bs_cell, bs_kinds, bs_cell, bs_kinds]
  iintro ⟨⟨HcB, -, Hc1, -, Hc3, -, Hc5⟩, ⟨HpB, Hp0, Hp1, Hp2, Hp3, Hp4, Hp5⟩, HtB, HtS, HtG⟩
  isplitl [HcB HpB]
  · isplitl [HcB]; · iexact HcB
    iexact HpB
  isplitl [HtB]; · iexact HtB
  isplitl [HtS]; · iexact HtS
  isplitl [HtG]; · iexact HtG
  isplitl [Hc1 Hc3 Hp1 Hp3]
  · have e : ∀ j : Fin 15, iprop((cred (tallyAt (kc c 1 j) () NO) ∗ atPos (ER (F := F)) (kc c 1 j) 0 ∅ 0) ∗ cred (tallyAt (kc c 3 j) () NL) ∗ atPos (ER (F := F)) (kc c 3 j) 0 ∅ 0)
      ⊢ rR' (F := F) c j := fun j => Entails.refl _
    iapply (bs_join22 e)
    isplitl [Hc1 Hp1]
    · isplitl [Hc1]; · iexact Hc1
      iexact Hp1
    isplitl [Hc3]; · iexact Hc3
    iexact Hp3
  isplitl [Hc5 Hp5]
  · have e : ∀ j : Fin 15, iprop(cred (tallyAt (kc c 5 j) () NO) ∗ atPos (ER (F := F)) (kc c 5 j) 0 ∅ 0) ⊢ wR (F := F) c j := fun j => Entails.refl _
    iapply (bs_join e)
    isplitl [Hc5]; · iexact Hc5
    iexact Hp5
  isplitl [Hp0 Hp2]
  · have e : ∀ j : Fin 15, iprop(atPos (ER (F := F)) (kc c 0 j) 0 ∅ 0 ∗ atPos (ER (F := F)) (kc c 2 j) 0 ∅ 0) ⊢ posO (F := F) c j := fun j => Entails.refl _
    iapply (bs_join e)
    isplitl [Hp0]; · iexact Hp0
    iexact Hp2
  unfold posG; iexact Hp4

end Cert.KernelIdeal.Body

end
-- ==== Proof.Run.lean ====
/- The kernel's launch: the run of all sixteen devices, the contents of every device's result, and that its arguments
   and semaphores end as they began. -/
module

public import proofs.«01_k».proof.Proof.Credits
public import proofs.«01_k».proof.Proof.Gen.KernelIdeal.Points
public import proofs.«01_k».proof.Proof.Gen.KernelIdeal.Frame
public import Idealize.ShloMosaic.Lib.Pipeline.CollectiveSegs
public import Idealize.ShloMosaic.Lib.Quiescent
@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What is kept between the launch and the run -/

/-- The keys and values, as launched. -/
def hbm (c : Dev nD) : sProp 𝕄 := Pipeline.unscopedRest spec0 c (V m c)
theorem hbm_eq (c : Dev nD) : hbm m c = iprop(full c main_arg2 (kA m c) ∗ full c main_arg3 (vA m c)) := by
  unfold hbm; rw [unscopedRest0_eq]; rfl
theorem scr_eq (c : Dev nD) : (Pipeline.scopedRest spec0 c : sProp 𝕄) = scr (F := F) c := by rw [scopedRest0_eq]; rfl

def start (c : Dev nD) : sProp 𝕄 := iprop((∃ K, Rec m K) ∗ exch (F := F) c ∗ copySems (F := F) c ∗ hbm m c)
def Φ₀ (c : Dev nD) : sProp 𝕄 := iprop(start m c ∗ scr (F := F) c)
def Φ₁ (c : Dev nD) : sProp 𝕄 :=
  iprop((semVal (bar c) 0 ∗ hbm m c) ∗ (copySems (F := F) c ∗ bigSep Finset.univ (fun j => zers (F := F) c j)) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => wqA m c
    | ⟨2, _⟩ => woA m c
    | ⟨3, _⟩ => outF m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

set_option maxRecDepth 65536 in
/-- The kernel's body is the pieces run above, on its own device. -/
theorem body_run (c : Dev nD) (K : Dev nD × Cell → ℕ) (A : sProp 𝕄) (Q : PUnit → sProp 𝕄) (h : A ⊢ iprop(Rec m K ∗ devPre m c)) (hQ : devPost m c ⊢ Q ⟨⟩) :
    A ⊢ Wp c (cc0_body (F := F) xM (Memref.isWhole_whole _) wqM (Memref.isWhole_whole _) woM (Memref.isWhole_whole _) kM (Memref.isWhole_whole _) vM (Memref.isWhole_whole _) outM (Memref.isWhole_whole _)
    qM (Memref.isWhole_whole _) accM (Memref.isWhole_whole _) lM (Memref.isWhole_whole _) rsM (Memref.isWhole_whole _) rlM (Memref.isWhole_whole _) agM (Memref.isWhole_whole _) finM (Memref.isWhole_whole _)
    khM (Memref.isWhole_whole _) vhM (Memref.isWhole_whole _) cc0_scratch9 cc0_scratch10 cc0_scratch11 cc0_scratch12 cc0_scratch13 cc0_scratch14 cc0_scratch15) Q := by
  rw [cc0_body_eq_skeleton, skel_eq]
  unfold Wp bodyP
  rw [wp_deviceId]
  have hr : A ⊢ Wp c (restP (F := F) c) (fun _ => devPost m c) := h.trans (dev_run m K c)
  have hw : Wp c (restP (F := F) c) (fun _ => devPost m c) ⊢ Wp c (restP (F := F) c) Q := wp_mono _ _ _ fun _ => hQ
  exact hr.trans hw

abbrev stg (c : Dev nD) (b : Ref sig .tc) (X : Buf (Elt F) ((c : Thread nD τ).loc b)) : sProp 𝕄 := iprop(∃ f, ⌜f = X⌝ ∗ full (F := F) c b f)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg (F := F) c b X := by
  unfold owns; simp only [Memref.view_whole, View.read_whole, View.set_whole]

def bodyPre (c : Dev nD) : sProp 𝕄 :=
  iprop(Φ₀ m c ∗ (dats m ρ 0 c).owesAt () (t0_0 : Fin cfg0.N).castSucc
    ∗ (∃ d, stg (F := F) c cc0_stg0_0 ((dats m ρ 0 c).before (0 : Fin 4) t0_0 d))
    ∗ (∃ d, stg (F := F) c cc0_stg1_0 ((dats m ρ 0 c).before (1 : Fin 4) t0_0 d))
    ∗ (∃ d, stg (F := F) c cc0_stg2_0 ((dats m ρ 0 c).before (2 : Fin 4) t0_0 d))
    ∗ (∃ d, stg (F := F) c cc0_stg3_0 ((dats m ρ 0 c).before (3 : Fin 4) t0_0 d)))
def bodyPost (c : Dev nD) : sProp 𝕄 :=
  iprop(Φ₁ m c ∗ (dats m ρ 0 c).owesAt () (t0_0 : Fin cfg0.N).succ
    ∗ stg (F := F) c cc0_stg0_0 (xA m c) ∗ stg (F := F) c cc0_stg1_0 (wqA m c) ∗ stg (F := F) c cc0_stg2_0 (woA m c) ∗ stg (F := F) c cc0_stg3_0 (outF m))

theorem before_0 (c : Dev nD) (d) : (dats m ρ 0 c).before (0 : Fin 4) t0_0 d = xA m c := by
  unfold Dat.before; rw [if_pos (fetch0_0 t0_0)]; rfl
theorem before_1 (c : Dev nD) (d) : (dats m ρ 0 c).before (1 : Fin 4) t0_0 d = wqA m c := by
  unfold Dat.before; rw [if_pos (fetch0_1 t0_0)]; rfl
theorem before_2 (c : Dev nD) (d) : (dats m ρ 0 c).before (2 : Fin 4) t0_0 d = woA m c := by
  unfold Dat.before; rw [if_pos (fetch0_2 t0_0)]; rfl

theorem stg_elim (c : Dev nD) (b : Ref sig .tc) (X Y : Buf (Elt F) ((c : Thread nD τ).loc b)) (h : X = Y) : stg (F := F) c b X ⊢ full (F := F) c b Y := by
  iintro ⟨%f, %hf, H⟩
  subst hf; subst h
  iexact H
theorem stg_intro (c : Dev nD) (b : Ref sig .tc) (X : Buf (Elt F) ((c : Thread nD τ).loc b)) : full (F := F) c b X ⊢ stg (F := F) c b X := by
  iintro H
  iexists X
  isplitr; · (ipureintro; rfl)
  iexact H

theorem ow_in (c : Dev nD) : (dats m ρ 0 c).owesAt () (t0_0 : Fin cfg0.N).castSucc ⊢ ow (F := F) c (O₀ c) := by
  unfold Dat.owesAt Pipeline.owesWithin ow
  iintro ⟨%W, -, HO⟩
  iexists W; iexact HO
theorem ow_out (c : Dev nD) : ow (F := F) c 0 ⊢ (dats m ρ 0 c).owesAt () (t0_0 : Fin cfg0.N).succ := by
  unfold Dat.owesAt Pipeline.owesWithin ow
  iintro ⟨%W, HO⟩
  iexists W
  isplitr; · ipureintro; exact fun _ _ => Or.inl trivial
  iexact HO

theorem pre_in (c : Dev nD) : bodyPre m ρ c ⊢ iprop(∃ K, Rec m K ∗ devPre m c) := by
  unfold bodyPre Φ₀ start devPre
  rw [hbm_eq]
  iintro ⟨⟨⟨⟨%K, HR⟩, He, Hc, Hh⟩, Hs⟩, Ho, ⟨%d0, H0⟩, ⟨%d1, H1⟩, ⟨%d2, H2⟩, ⟨%d3, ⟨%f3, -, H3⟩⟩⟩
  iexists K
  isplitl [HR]; · iexact HR
  isplitl [Ho]; · iapply (ow_in m ρ c); iexact Ho
  isplitl [He]; · iexact He
  isplitl [H0 H1 H2 H3]
  · isplitl [H0]; · iapply (stg_elim c cc0_stg0_0 _ _ (before_0 m ρ c d0)); iexact H0
    isplitl [H1]; · iapply (stg_elim c cc0_stg1_0 _ _ (before_1 m ρ c d1)); iexact H1
    isplitl [H2]; · iapply (stg_elim c cc0_stg2_0 _ _ (before_2 m ρ c d2)); iexact H2
    iexists f3; iexact H3
  isplitl [Hh]; · iexact Hh
  isplitl [Hs]; · iexact Hs
  unfold copySems; iexact Hc

theorem post_out (c : Dev nD) : devPost m c ⊢ bodyPost m ρ c := by
  unfold bodyPost Φ₁ devPost
  rw [hbm_eq]
  iintro ⟨Ho, ⟨Hb, Hz⟩, ⟨H0, H1, H2, H3⟩, Hh, Hs, Hc⟩
  isplitl [Hb Hz Hh Hs Hc]
  · isplitl [Hb Hh]
    · isplitl [Hb]; · iexact Hb
      iexact Hh
    isplitl [Hc Hz]
    · isplitl [Hc]; · unfold copySems; iexact Hc
      iexact Hz
    iexact Hs
  isplitl [Ho]; · iapply (ow_out m ρ c); iexact Ho
  isplitl [H0]; · iapply (stg_intro c cc0_stg0_0 _); iexact H0
  isplitl [H1]; · iapply (stg_intro c cc0_stg1_0 _); iexact H1
  isplitl [H2]; · iapply (stg_intro c cc0_stg2_0 _); iexact H2
  iapply (stg_intro c cc0_stg3_0 _); iexact H3

theorem body_whole (c : Dev nD) : bodyPre m ρ c ⊢ Wp c (cc0_body (F := F) xM (Memref.isWhole_whole _) wqM (Memref.isWhole_whole _) woM (Memref.isWhole_whole _) kM (Memref.isWhole_whole _) vM (Memref.isWhole_whole _) outM (Memref.isWhole_whole _)
    qM (Memref.isWhole_whole _) accM (Memref.isWhole_whole _) lM (Memref.isWhole_whole _) rsM (Memref.isWhole_whole _) rlM (Memref.isWhole_whole _) agM (Memref.isWhole_whole _) finM (Memref.isWhole_whole _)
    khM (Memref.isWhole_whole _) vhM (Memref.isWhole_whole _) cc0_scratch9 cc0_scratch10 cc0_scratch11 cc0_scratch12 cc0_scratch13 cc0_scratch14 cc0_scratch15) (fun _ => bodyPost m ρ c) :=
  (pre_in m ρ c).trans (exists_elim fun K => body_run m c K _ _ BIBase.Entails.refl (post_out m ρ c))

theorem st_0 : (cfg0.win 0).stage (cfg0.slots t0_0 0) = xM := rfl
theorem st_1 : (cfg0.win 1).stage (cfg0.slots t0_0 1) = wqM := rfl
theorem st_2 : (cfg0.win 2).stage (cfg0.slots t0_0 2) = woM := rfl
theorem st_3 : (cfg0.win 3).stage (cfg0.slots t0_0 3) = outM := rfl
set_option maxRecDepth 65536 in
theorem bodyAt_eq : bodyAt0 (F := F) t0_0 = cc0_body (F := F) xM (Memref.isWhole_whole _) wqM (Memref.isWhole_whole _) woM (Memref.isWhole_whole _) kM (Memref.isWhole_whole _) vM (Memref.isWhole_whole _) outM (Memref.isWhole_whole _)
    qM (Memref.isWhole_whole _) accM (Memref.isWhole_whole _) lM (Memref.isWhole_whole _) rsM (Memref.isWhole_whole _) rlM (Memref.isWhole_whole _) agM (Memref.isWhole_whole _) finM (Memref.isWhole_whole _)
    khM (Memref.isWhole_whole _) vhM (Memref.isWhole_whole _) cc0_scratch9 cc0_scratch10 cc0_scratch11 cc0_scratch12 cc0_scratch13 cc0_scratch14 cc0_scratch15 := rfl
set_option maxRecDepth 100000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  have e : defs₀ (F := F) .tc cfg0.body (cfg0.bodyArgs t0_0 (cfg0.slots t0_0)) = bodyAt0 (F := F) t0_0 := rfl
  rw [e, bodyAt_eq]
  refine BIBase.Entails.trans (Q := bodyPre m ρ c) ?_ (BIBase.Entails.trans (body_whole m ρ c) ?_)
  · exact BIBase.Entails.refl
  · refine wp_mono _ _ _ fun _ => ?_
    exact BIBase.Entails.refl

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold G' lin
  iintro ⟨Hh, Hlev, Hcr, -, ⟨%K, ⟨HI, HR⟩, Hp, Ht, Hc⟩⟩
  ihave Hcr := (creds_intro (F := F) c) $$ Hcr
  imodintro
  unfold start
  isplitl
  · isplitl [HI HR Hlev]
    · iexists K
      unfold Rec
      isplitl [HI]; · iexact HI
      isplitl [HR]; · iexact HR
      iexact Hlev
    isplitl [Hcr Hp Ht]
    · iapply (exch_intro (F := F) c)
      isplitl [Hcr]; · iexact Hcr
      isplitl [Hp]; · iexact Hp
      iexact Ht
    isplitl [Hc]; · iexact Hc
    unfold hbm; iexact Hh
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [← scr_eq]
  iintro ⟨Hs, -, Hr⟩
  isplitl [Hs]; · iexact Hs
  iexact Hr

/-- What a device hands back, for reading. -/
def final (c : Dev nD) : sProp 𝕄 := iprop(semVal (bar c) 0 ∗ hbm m c)

theorem zers_kinds (c : Dev nD) : bigSep Finset.univ (fun j => zers (F := F) c j) ⊢ bigSep Finset.univ fun kj : Fin 6 × Fin 15 => (semVal (kcell c (.inr kj)) 0 : sProp 𝕄) := by
  rw [bs_kinds]
  unfold zers
  rw [bigSep_sep', bigSep_sep', bigSep_sep', bigSep_sep', bigSep_sep']
  iintro ⟨⟨H0, H2⟩, ⟨H1, H3⟩, H4, H5⟩
  isplitl [H0]; · iexact H0
  isplitl [H1]; · iexact H1
  isplitl [H2]; · iexact H2
  isplitl [H3]; · iexact H3
  isplitl [H4]; · iexact H4
  iexact H5

theorem phi1_exit (c : Dev nD) :
    (dats m ρ 0 c).Φ (Fin.last cfg0.N) ⊢ iprop(final m c ∗ Pipeline.ownSems0 osem c ∗ Pipeline.scopedRest cfg0.spec c) := by
  rw [show (dats m ρ 0 c).Φ (Fin.last cfg0.N) = Φ₁ m c from rfl, ownSems0_eq]
  unfold Φ₁ final
  rw [← scr_eq]
  iintro ⟨Hf, ⟨Hc, Hz⟩, Hr⟩
  isplitl [Hf]; · iexact Hf
  isplitl [Hc Hz]
  · isplitl [Hc]; · iexact Hc
    iapply (zers_kinds c); iexact Hz
  iexact Hr

/-- A semaphore that fetches or writes back a window is none of the exchange's. -/
theorem clv_stage (q : DmaSem sig) (hq : q.val < 4) : clv (dec (.dma q)) = 0 := by
  have h : dec (.dma q) = none := by
    unfold dec; rw [dif_neg]
    rintro ⟨_ | ⟨k, j⟩, h⟩
    · cases h
    · have hv : (kq k j).val = q.val := by injection h with h; exact congrArg Fin.val h
      rw [kq_val] at hv
      omega
  rw [h]; rfl

theorem waits (c : Dev nD) : (levAts L lv : sProp 𝕄) ⊢ Pipeline.cellsWaits cfgs (dats m ρ) () 0 c :=
  Pipeline.cellsWaits_intro cfgs (dats m ρ) () 0 c fun w s t => by
    have hq : ((cfg0.win w).sem s).val < 4 := by revert w s; decide
    have ho : Above 0 ((dats m ρ 0 c).owed t) := by
      rcases t with ⟨_ | _, ht⟩
      · exact above_O₀ c
      · exact Above.zero 0
    exact mayWait c (.dma ((cfg0.win w).sem s)) (le_of_eq (clv_stage _ hq)) ho

/-! ## The run -/

def finalA (c : Dev nD) (w : Fin cfg0.W) : Buf (Elt F) ((cfg0.win w).arr.view.loc (c : Thread nD τ)) := (dats m ρ 0 c).arrAt w cfg0.N

/-- What is read of the final memory. -/
def QC : PUnit × MemSt nD τ sig (Elt F) → Prop := fun r =>
  ∀ c : Dev nD, (∀ w : Fin cfg0.W, r.2.mem ((cfg0.win w).arr.view.loc (c : Thread nD τ)) = finalA m ρ c w)
    ∧ ∀ b ∈ Pipeline.restRefs sig spec0, r.2.mem ((c : Thread nD τ).loc b) = V m c b

theorem read_final (c : Dev nD) (s' : Phys nD τ sig (Elt F)) :
    iprop(final m c ∗ emp ∗ SI s') ⊢ |={Set.univ}=> iprop(⌜(∀ sm : SemLoc sig, sm.isScoped .tc = false → s'.mem.sem ((c.tc : Thread nD τ), sm) = 0)
      ∧ ∀ b ∈ Pipeline.restRefs sig spec0, s'.mem.mem ((c : Thread nD τ).loc b) = V m c b⌝ ∗ SI s') := by
  unfold final hbm Pipeline.unscopedRest
  rw [← unscopedSems0_eq]
  iintro ⟨⟨Hu, Hh⟩, -, HSI⟩
  imod (Pipeline.unscopedSems0_read (X := unscopedSems0 c) (c := c) fupd_intro s') $$ [Hu HSI] with ⟨%h1, HSI⟩
  · isplitl [Hu] <;> iassumption
  ihave H := (pointsTo_read_all (Pipeline.restRefs sig spec0) (fun b => (c : Thread nD τ).loc b) (V m c) s') $$ [Hh HSI]
  · isplitl [Hh] <;> iassumption
  icases H with ⟨%h2, HSI⟩
  imodintro
  isplitr
  · ipureintro; exact ⟨h1, h2⟩
  iexact HSI

theorem own_exch (a : UB) : (BI.own (((Emb.inl : Emb UB (UB × Counters)).trans (embR : Emb (UB × Counters) 𝕄)) a) : sProp 𝕄) ⊢ BI.own ((ER (F := F)) a) :=
  Entails.of_eq rfl

set_option maxRecDepth 100000 in
/-- Every fair run of the sixteen kernels ends, with every array at the contents stated, the arguments as they were, and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (own_exch (F := F) _) $$ HX
      imod (fund m) $$ HX with HG
      imodintro
      isplitl [HP] <;> iassumption)
    (hglob := glob m)
    (hA := fun _ _ => rfl) (hpf := fun _ k => k.elim0)
    (X := start m) (Y := final m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ Pipeline.restRefs sig spec0, s.mem ((c : Thread nD τ).loc b) = V m c b)
    (hY := read_final m)
    (hQ := fun _ h hs => ⟨fun c => ⟨fun w => (h c).1 w, (h c).2.2.2⟩, sem_eq_zero hs fun c => (h c).2.2.1⟩)

end Cert.KernelIdeal.Body

end
-- ==== Proof.Result.lean ====
/- What the run leaves: the result array holds the rows every device gathers, the arguments are as launched, and the
   first contents read back as the launched arrays. -/
module

public import proofs.«01_k».proof.Proof.Run
@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ UU ℕ

variable (m : (ℓ : Loc nD τ sig) → Buf (Elt F) ℓ) (ρ : Dev nD → PrngReg)

theorem zero_off {a : Fin 2 → Nat} : (fun i => 0 * a i) = fun _ => 0 := funext fun i => Nat.zero_mul _

/-- A block that is the whole array reads the array. -/
theorem xA_eq (c : Dev nD) : xA m c = m ((c : Thread nD τ).loc main_arg0) :=
  Memref.read_access_unit_zero (Elt F) main_arg0 zero_off _ (m ((c : Thread nD τ).loc main_arg0))
theorem wqA_eq (c : Dev nD) : wqA m c = m ((c : Thread nD τ).loc main_arg1) :=
  Memref.read_access_unit_zero (Elt F) main_arg1 zero_off _ (m ((c : Thread nD τ).loc main_arg1))
theorem woA_eq (c : Dev nD) : woA m c = m ((c : Thread nD τ).loc main_arg4) :=
  Memref.read_access_unit_zero (Elt F) main_arg4 zero_off _ (m ((c : Thread nD τ).loc main_arg4))

/-- The result array ends at the gathered rows. -/
theorem final_out (c : Dev nD) : finalA m ρ c 3 = outF m := by
  refine ((dats m ρ 0 c).arrAt_succ 3 ⟨0, Nat.one_pos⟩).trans ?_
  rw [if_pos (flush0_3 _)]
  exact Memref.write_access_unit_zero_univ (Elt F) main_v1 zero_off _ _ (outF m)

/-- The run, read back: each device's result, its arguments unchanged, every semaphore at zero. -/
theorem run_values : θ_run defs (onTc (τ := τ) (main (F := F))) ⟨m, fun _ => 0, ρ⟩ (fun r => (∀ c : Dev nD,
      r.2.mem ((c.tc : Thread nD τ).loc main_v1) = outF m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).1 3).trans (final_out m ρ c),
      ((h.1 c).1 0).trans ((dats m ρ 0 c).arrAt_in 0 rfl _),
      ((h.1 c).1 1).trans ((dats m ρ 0 c).arrAt_in 1 rfl _),
      (h.1 c).2 main_arg2 (Pipeline.mem_restRefs_of main_arg2 (by decide) (by decide)),
      (h.1 c).2 main_arg3 (Pipeline.mem_restRefs_of main_arg3 (by decide) (by decide)),
      ((h.1 c).1 2).trans ((dats m ρ 0 c).arrAt_in 2 rfl _)⟩, h.2⟩) (run_main m ρ)

end Cert.KernelIdeal.Body

end
-- ==== Proof.HeadSum.lean ====
/- One head of one device, read at an entry: the four blocks' sums are sums over the device's 2048 keys. -/
module

public import proofs.«01_k».proof.Proof.Proto
public import Idealize.ShloMosaic.Lib.Pointwise
@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The exponent of a query row and a key row. -/
def dotQK (q : Vec Ideal S512x128 .bf16) (k : Vec Ideal S2048x128 .f32) (r : Fin 512) (t : Fin 2048) : EReal :=
  ∑ d : Fin 128, q (ix2 (n0 := 512) (n1 := 128) r d) * k (ix2 (n0 := 2048) (n1 := 128) t d)

/-- Row `t` of block `b`. -/
def keyAt (b : Fin 4) (t : Fin 512) : Fin 2048 := ⟨512 * b.val + t.val, by omega⟩

theorem blk_apply (b : Fin 4) (x : Vec Ideal S2048x128 .f32) (t : Fin 512) (d : Fin 128) :
    blk b x (ix2 (n0 := 512) (n1 := 128) t d) = x (ix2 (n0 := 2048) (n1 := 128) (keyAt b t) d) := by
  refine congrArg x (funext fun a => Fin.ext ?_)
  match a with
  | ⟨0, _⟩ => show 512 * b.val + 1 * t.val = 512 * b.val + t.val; omega
  | ⟨1, _⟩ => show 0 + 1 * d.val = d.val; omega

theorem pay3_apply (q : Vec Ideal S512x128 .bf16) (k : Vec Ideal S512x128 .f32) (r : Fin 512) (t : Fin 512) :
    k0_pay3 q k (ix2 (n0 := 512) (n1 := 512) r t) = Ideal.exp2 (∑ d : Fin 128, q (ix2 (n0 := 512) (n1 := 128) r d) * k (ix2 (n0 := 512) (n1 := 128) t d)) := by
  pointwise [k0_pay3]
  rfl

theorem pay5_apply (q : Vec Ideal S512x128 .bf16) (k v : Vec Ideal S512x128 .f32) (r : Fin 512) (d : Fin 128) :
    k0_pay5 q k v (ix2 (n0 := 512) (n1 := 128) r d)
      = ∑ t : Fin 512, k0_pay3 q k (ix2 (n0 := 512) (n1 := 512) r t) * v (ix2 (n0 := 512) (n1 := 128) t d) := by
  pointwise [k0_pay5]

theorem pay4_apply (q : Vec Ideal S512x128 .bf16) (k : Vec Ideal S512x128 .f32) (r : Fin 512) :
    k0_pay4 q k (ix2 (n0 := 512) (n1 := 1) r 0) = ∑ t : Fin 512, k0_pay3 q k (ix2 (n0 := 512) (n1 := 512) r t) := by
  pointwise [k0_pay4]

theorem pay10_eq (q : Vec Ideal S512x128 .bf16) (a : FVec Ideal S512x128 .f32) (k1 v1 k2 v2 k3 v3 : Vec Ideal S512x128 .f32) :
    k0_pay10 q a k1 v1 k2 v2 k3 v3 = shapeCast S512x128 (addf (addf (addf a (k0_pay5 q k1 v1)) (k0_pay5 q k2 v2)) (k0_pay5 q k3 v3)) shapeCasts_S512x128_S512x128 := rfl

theorem pay9_eq (q : Vec Ideal S512x128 .bf16) (a : FVec Ideal S512x1 .f32) (k1 k2 k3 : Vec Ideal S512x128 .f32) :
    k0_pay9 q a k1 k2 k3 = addf (addf (addf a (k0_pay4 q k1)) (k0_pay4 q k2)) (k0_pay4 q k3) := rfl

theorem hdO_blocks (q : Vec Ideal S512x128 .bf16) (k v : Vec Ideal S2048x128 .f32) (r : Fin 512) (d : Fin 128) :
    hdO q k v (ix2 (n0 := 512) (n1 := 128) r d) = ∑ b : Fin 4, k0_pay5 q (blk b k) (blk b v) (ix2 (n0 := 512) (n1 := 128) r d) := by
  rw [Fin.sum_univ_four]
  unfold hdO
  rw [pay10_eq, shapeCast_self]
  generalize k0_pay5 q (blk 0 k) (blk 0 v) = a
  generalize k0_pay5 q (blk 1 k) (blk 1 v) = b
  generalize k0_pay5 q (blk 2 k) (blk 2 v) = c
  generalize k0_pay5 q (blk 3 k) (blk 3 v) = d
  rfl

theorem hdL_blocks (q : Vec Ideal S512x128 .bf16) (k : Vec Ideal S2048x128 .f32) (r : Fin 512) :
    hdL q k (ix2 (n0 := 512) (n1 := 1) r 0) = ∑ b : Fin 4, k0_pay4 q (blk b k) (ix2 (n0 := 512) (n1 := 1) r 0) := by
  rw [Fin.sum_univ_four]
  unfold hdL k0_pay11
  rw [shapeCast_self, pay9_eq]
  generalize k0_pay4 q (blk 0 k) = a
  generalize k0_pay4 q (blk 1 k) = b
  generalize k0_pay4 q (blk 2 k) = c
  generalize k0_pay4 q (blk 3 k) = d
  rfl

theorem sum_keys (f : Fin 2048 → EReal) : ∑ b : Fin 4, ∑ t : Fin 512, f (keyAt b t) = ∑ t, f t := by
  rw [Fin.sum_univ_tiles 4 512 rfl f]
  exact Finset.sum_congr rfl fun b _ => Finset.sum_congr rfl fun t _ => congrArg f (Fin.ext (by show 512 * b.val + t.val = b.val * 512 + t.val; omega))

/-- A head's sums: over the device's keys, the powers times the values. -/
theorem hdO_apply (q : Vec Ideal S512x128 .bf16) (k v : Vec Ideal S2048x128 .f32) (r : Fin 512) (d : Fin 128) :
    hdO q k v (ix2 (n0 := 512) (n1 := 128) r d) = ∑ t : Fin 2048, Ideal.exp2 (dotQK q k r t) * v (ix2 (n0 := 2048) (n1 := 128) t d) := by
  rw [hdO_blocks, ← sum_keys fun t => Ideal.exp2 (dotQK q k r t) * v (ix2 (n0 := 2048) (n1 := 128) t d)]
  refine Finset.sum_congr rfl fun b _ => ?_
  rw [pay5_apply]
  refine Finset.sum_congr rfl fun t _ => ?_
  rw [pay3_apply, blk_apply]
  simp only [blk_apply]
  rfl

/-- A head's denominators: over the device's keys, the powers. -/
theorem hdL_apply (q : Vec Ideal S512x128 .bf16) (k : Vec Ideal S2048x128 .f32) (r : Fin 512) :
    hdL q k (ix2 (n0 := 512) (n1 := 1) r 0) = ∑ t : Fin 2048, Ideal.exp2 (dotQK q k r t) := by
  rw [hdL_blocks, ← sum_keys fun t => Ideal.exp2 (dotQK q k r t)]
  refine Finset.sum_congr rfl fun b _ => ?_
  rw [pay4_apply]
  refine Finset.sum_congr rfl fun t _ => ?_
  rw [pay3_apply]
  simp only [blk_apply]
  rfl

end Cert.KernelIdeal.Body

end
-- ==== Proof.Output.lean ====
/- The kernel's result read at an entry, over the extended reals: sums over all 32768 keys of the powers of two of the
   scaled scores, their quotient, and the last product. -/
module

public import proofs.«01_k».proof.Proof.HeadSum
@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The keys (and the values) of all devices together. -/
abbrev Whole : Shape := ⟨3, ![32768, 8, 128]⟩

/-- Column `d` of head `h`. -/
def colAt (h : Fin 8) (d : Fin 128) : Fin 1024 := ⟨128 * h.val + d.val, by omega⟩
/-- Key `t` of device `c`. -/
def keyOf (c : Fin 16) (t : Fin 2048) : Fin 32768 := ⟨c.val * 2048 + t.val, by omega⟩

theorem colAt_head (n : Fin 1024) : colAt (cH n) (cC n) = n := Fin.ext (by show 128 * (n.val / 128) + n.val % 128 = n.val; omega)
theorem rowAt_block (i : Fin 512) : rowAt (rB i) (rR i) = i := Fin.ext (by show 32 * (i.val / 32) + i.val % 32 = i.val; omega)

/-- The scale the queries carry. -/
def scaleK : EReal := (((11863283 / 134217728) * (Real.log 2)⁻¹ : ℝ) : EReal)

/-- The projected queries. -/
def proj (x : Vec Ideal S512x1024 .f32) (w : Vec Ideal S1024x1024 .f32) (i : Fin 512) (n : Fin 1024) : EReal :=
  ∑ k : Fin 1024, x (ix2 (n0 := 512) (n1 := 1024) i k) * w (ix2 (n0 := 1024) (n1 := 1024) k n)

/-- The weight of key `J` for row `i` of head `h`. -/
def weight (x : Vec Ideal S512x1024 .f32) (w : Vec Ideal S1024x1024 .f32) (K : Whole.Idx → EReal) (h : Fin 8) (i : Fin 512) (J : Fin 32768) : EReal :=
  Ideal.exp2 (∑ d : Fin 128, proj x w i (colAt h d) * scaleK * K (ix3 (n0 := 32768) (n1 := 8) (n2 := 128) J h d))

theorem pay1_apply (x : Vec Ideal S512x1024 .f32) (w : Vec Ideal S1024x1024 .f32) (i : Fin 512) (n : Fin 1024) :
    k0_pay2 (k0_pay1 x w) (ix2 (n0 := 512) (n1 := 1024) i n) = proj x w i n * scaleK := by
  pointwise [k0_pay1, k0_pay2]
  rfl

theorem pay120_apply (f : Vec Ideal S32x1024 .f32) (w : Vec Ideal S1024x1024 .f32) (r : Fin 32) (n : Fin 1024) :
    k0_pay120 f w (ix2 (n0 := 32) (n1 := 1024) r n) = ∑ k : Fin 1024, f (ix2 (n0 := 32) (n1 := 1024) r k) * w (ix2 (n0 := 1024) (n1 := 1024) k n) := by
  pointwise [k0_pay120]

theorem pay85_apply (a : Vec Ideal S32x1024 .f32) (x : Vec Ideal S32x1024 .f32) (r : Fin 32) (n : Fin 1024) :
    k0_pay85 a (lead x) (ix2 (n0 := 32) (n1 := 1024) r n) = a (ix2 (n0 := 32) (n1 := 1024) r n) + x (ix2 (n0 := 32) (n1 := 1024) r n) := by
  pointwise [k0_pay85]
  rfl

theorem pay86_apply (a : Vec Ideal S32x8 .f32) (x : Vec Ideal S32x8 .f32) (r : Fin 32) (n : Fin 8) :
    k0_pay86 a (llead x) (ix2 (n0 := 32) (n1 := 8) r n) = a (ix2 (n0 := 32) (n1 := 8) r n) + x (ix2 (n0 := 32) (n1 := 8) r n) := by
  pointwise [k0_pay86]
  rfl

theorem divV_apply (h : Fin 8) (l : FVec Ideal S32x8 .f32) (x : Vec Ideal S32x128 .f32) (r : Fin 32) (d : Fin 128) :
    divV h l x (ix2 (n0 := 32) (n1 := 128) r d) = Ideal.div (x (ix2 (n0 := 32) (n1 := 128) r d)) (l (ix2 (n0 := 32) (n1 := 8) r h)) := by
  pointwise [divV]

theorem qcols_apply (h : Fin 8) (q : Vec Ideal S512x1024 .bf16) (r : Fin 512) (d : Fin 128) :
    qcols h q (ix2 (n0 := 512) (n1 := 128) r d) = q (ix2 (n0 := 512) (n1 := 1024) r (colAt h d)) := by
  refine congrArg q (funext fun a => Fin.ext ?_)
  match a with
  | ⟨0, _⟩ => show 0 + 1 * r.val = r.val; omega
  | ⟨1, _⟩ => show 128 * h.val + 1 * d.val = 128 * h.val + d.val; omega

theorem fcols_apply (h : Fin 8) (x : Vec Ideal S32x1024 .f32) (r : Fin 32) (d : Fin 128) :
    fcols h x (ix2 (n0 := 32) (n1 := 128) r d) = x (ix2 (n0 := 32) (n1 := 1024) r (colAt h d)) := by
  refine congrArg x (funext fun a => Fin.ext ?_)
  match a with
  | ⟨0, _⟩ => show 0 + 1 * r.val = r.val; omega
  | ⟨1, _⟩ => show 128 * h.val + 1 * d.val = 128 * h.val + d.val; omega

variable (m : (ℓ : Loc nD τ sig) → Buf (Elt Ideal) ℓ)

theorem head_index (e : (⟨2, ![2048, 128]⟩ : Shape).numel = (⟨3, ![2048, 1, 128]⟩ : Shape).numel) (t : Fin 2048) (d : Fin 128) :
    Shape.reshapeEquiv e (ix2 (n0 := 2048) (n1 := 128) t d) = ix3 (n0 := 2048) (n1 := 1) (n2 := 128) t 0 d :=
  Shape.reshapeEquiv_eq_of_vals e _ _ _ _ (rowMajor_val3 _ 128 128 rfl rfl) (rowMajor_val2 _ 128 rfl)
    (by show t.val * 128 + 0 * 128 + d.val = t.val * 128 + d.val; omega)

theorem kH_apply (c : Dev nD) (h : Fin 8) (t : Fin 2048) (d : Fin 128) :
    kH m c h (ix2 (n0 := 2048) (n1 := 128) t d) = kA m c (ix3 (n0 := 2048) (n1 := 8) (n2 := 128) t h d) := by
  show kA m c ((Rect.unit (s := S2048x8x128) ![0, h.val, 0] S2048x1x128.size (head_inb h)).emb (Shape.reshapeEquiv _ (ix2 (n0 := 2048) (n1 := 128) t d))) = _
  rw [head_index]
  refine congrArg (kA m c) (funext fun a => Fin.ext ?_)
  match a with
  | ⟨0, _⟩ => show 0 + 1 * t.val = t.val; omega
  | ⟨1, _⟩ => show h.val + 1 * 0 = h.val; omega
  | ⟨2, _⟩ => show 0 + 1 * d.val = d.val; omega

theorem vH_apply (c : Dev nD) (h : Fin 8) (t : Fin 2048) (d : Fin 128) :
    vH m c h (ix2 (n0 := 2048) (n1 := 128) t d) = vA m c (ix3 (n0 := 2048) (n1 := 8) (n2 := 128) t h d) := by
  show vA m c ((Rect.unit (s := S2048x8x128) ![0, h.val, 0] S2048x1x128.size (head_inb h)).emb (Shape.reshapeEquiv _ (ix2 (n0 := 2048) (n1 := 128) t d))) = _
  rw [head_index]
  refine congrArg (vA m c) (funext fun a => Fin.ext ?_)
  match a with
  | ⟨0, _⟩ => show 0 + 1 * t.val = t.val; omega
  | ⟨1, _⟩ => show h.val + 1 * 0 = h.val; omega
  | ⟨2, _⟩ => show 0 + 1 * d.val = d.val; omega

/-! ## The totals over the devices -/

theorem tot_fst (c : Dev nD) (r : Fin 32) (k : Fin 1024) : ∀ n : ℕ, (tot m c n).1 (ix2 (n0 := 32) (n1 := 1024) r k)
    = accF m c (ix2 (n0 := 512) (n1 := 1024) (rowAt c r) k) + ∑ j ∈ Finset.range n, accF m (src c j) (ix2 (n0 := 512) (n1 := 1024) (rowAt c r) k)
  | 0 => by simp only [Finset.range_zero, Finset.sum_empty, add_zero]; rfl
  | n + 1 => by
    have e := pay85_apply (tot m c n).1 (rowsOf c (accF m (src c n))) r k
    rw [tot_fst c r k n] at e
    rw [Finset.sum_range_succ, ← add_assoc]
    exact e

theorem tot_snd (c : Dev nD) (r : Fin 32) (h : Fin 8) : ∀ n : ℕ, (tot m c n).2 (ix2 (n0 := 32) (n1 := 8) r h)
    = lF m c (ix2 (n0 := 512) (n1 := 8) (rowAt c r) h) + ∑ j ∈ Finset.range n, lF m (src c j) (ix2 (n0 := 512) (n1 := 8) (rowAt c r) h)
  | 0 => by simp only [Finset.range_zero, Finset.sum_empty, add_zero]; rfl
  | n + 1 => by
    have e := pay86_apply (tot m c n).2 (lrowsOf c (lF m (src c n))) r h
    rw [tot_snd c r h n] at e
    rw [Finset.sum_range_succ, ← add_assoc]
    exact e

/-- A device and its fifteen peers are all the devices. -/
theorem sum_src (c : Dev nD) (f : Dev nD → EReal) : f c + ∑ j ∈ Finset.range 15, f (src c j) = ∑ d : Fin 16, f d := by
  have e : (Finset.univ : Finset (Fin 16)).erase c = Finset.univ.image fun j : Fin 15 => src c j.val := by revert c; decide
  have i : ∀ a b : Fin 15, src c a.val = src c b.val → a = b := by revert c; decide
  rw [Finset.sum_range fun j => f (src c j), ← Finset.add_sum_erase (Finset.univ : Finset (Fin 16)) f (Finset.mem_univ c), e, Finset.sum_image fun a _ b _ => i a b]

theorem sum_keyOf (f : Fin 32768 → EReal) : ∑ c : Fin 16, ∑ t : Fin 2048, f (keyOf c t) = ∑ J, f J :=
  (Fin.sum_univ_tiles 16 2048 rfl f).symm

variable {m}
variable {x : Vec Ideal S512x1024 .f32} {wq wo : Vec Ideal S1024x1024 .f32} {K V : Whole.Idx → EReal}

theorem dot_weight (hx : ∀ c, xA m c = x) (hw : ∀ c, wqA m c = wq)
    (hK : ∀ (c : Dev nD) (t : Fin 2048) (h : Fin 8) (d : Fin 128), kA m c (ix3 (n0 := 2048) (n1 := 8) (n2 := 128) t h d) = K (ix3 (n0 := 32768) (n1 := 8) (n2 := 128) (keyOf c t) h d))
    (c : Dev nD) (h : Fin 8) (i : Fin 512) (t : Fin 2048) :
    Ideal.exp2 (dotQK (qcols h (qF m c)) (kH m c h) i t) = weight x wq K h i (keyOf c t) := by
  unfold dotQK weight
  refine congrArg Ideal.exp2 (Finset.sum_congr rfl fun d _ => ?_)
  rw [qcols_apply, kH_apply, hK]
  unfold qF
  rw [pay1_apply, hx, hw]

theorem accF_apply (hx : ∀ c, xA m c = x) (hw : ∀ c, wqA m c = wq)
    (hK : ∀ (c : Dev nD) (t : Fin 2048) (h : Fin 8) (d : Fin 128), kA m c (ix3 (n0 := 2048) (n1 := 8) (n2 := 128) t h d) = K (ix3 (n0 := 32768) (n1 := 8) (n2 := 128) (keyOf c t) h d))
    (hV : ∀ (c : Dev nD) (t : Fin 2048) (h : Fin 8) (d : Fin 128), vA m c (ix3 (n0 := 2048) (n1 := 8) (n2 := 128) t h d) = V (ix3 (n0 := 32768) (n1 := 8) (n2 := 128) (keyOf c t) h d))
    (c : Dev nD) (i : Fin 512) (k : Fin 1024) :
    accF m c (ix2 (n0 := 512) (n1 := 1024) i k) = ∑ t : Fin 2048, weight x wq K (cH k) i (keyOf c t) * V (ix3 (n0 := 32768) (n1 := 8) (n2 := 128) (keyOf c t) (cH k) (cC k)) := by
  refine (hdO_apply (qcols (cH k) (qF m c)) (kH m c (cH k)) (vH m c (cH k)) i (cC k)).trans ?_
  refine Finset.sum_congr rfl fun t _ => ?_
  rw [dot_weight hx hw hK, vH_apply, hV]

theorem lF_apply (hx : ∀ c, xA m c = x) (hw : ∀ c, wqA m c = wq)
    (hK : ∀ (c : Dev nD) (t : Fin 2048) (h : Fin 8) (d : Fin 128), kA m c (ix3 (n0 := 2048) (n1 := 8) (n2 := 128) t h d) = K (ix3 (n0 := 32768) (n1 := 8) (n2 := 128) (keyOf c t) h d))
    (c : Dev nD) (i : Fin 512) (h : Fin 8) :
    lF m c (ix2 (n0 := 512) (n1 := 8) i h) = ∑ t : Fin 2048, weight x wq K h i (keyOf c t) := by
  refine (hdL_apply (qcols h (qF m c)) (kH m c h) i).trans ?_
  exact Finset.sum_congr rfl fun t _ => dot_weight hx hw hK c h i t

/-- The quotient at row `i` and column `k`. -/
def quot (x : Vec Ideal S512x1024 .f32) (wq : Vec Ideal S1024x1024 .f32) (K V : Whole.Idx → EReal) (i : Fin 512) (k : Fin 1024) : EReal :=
  Ideal.div (∑ J : Fin 32768, weight x wq K (cH k) i J * V (ix3 (n0 := 32768) (n1 := 8) (n2 := 128) J (cH k) (cC k))) (∑ J : Fin 32768, weight x wq K (cH k) i J)

theorem finF_apply (hx : ∀ c, xA m c = x) (hw : ∀ c, wqA m c = wq)
    (hK : ∀ (c : Dev nD) (t : Fin 2048) (h : Fin 8) (d : Fin 128), kA m c (ix3 (n0 := 2048) (n1 := 8) (n2 := 128) t h d) = K (ix3 (n0 := 32768) (n1 := 8) (n2 := 128) (keyOf c t) h d))
    (hV : ∀ (c : Dev nD) (t : Fin 2048) (h : Fin 8) (d : Fin 128), vA m c (ix3 (n0 := 2048) (n1 := 8) (n2 := 128) t h d) = V (ix3 (n0 := 32768) (n1 := 8) (n2 := 128) (keyOf c t) h d))
    (c : Dev nD) (r : Fin 32) (k : Fin 1024) :
    finF m c (ix2 (n0 := 32) (n1 := 1024) r k) = quot x wq K V (rowAt c r) k := by
  refine (divV_apply (cH k) (tot m c 15).2 (fcols (cH k) (k0_pay121 (F := Ideal) (tot m c 15).1)) r (cC k)).trans ?_
  unfold k0_pay121
  rw [shapeCast_self, fcols_apply, colAt_head, tot_fst, tot_snd, sum_src c fun d => accF m d _, sum_src c fun d => lF m d _]
  simp only [accF_apply hx hw hK hV, lF_apply hx hw hK]
  unfold quot
  rw [sum_keyOf fun J => weight x wq K (cH k) (rowAt c r) J, sum_keyOf fun J => weight x wq K (cH k) (rowAt c r) J * V (ix3 (n0 := 32768) (n1 := 8) (n2 := 128) J (cH k) (cC k))]

/-- The kernel's result at an entry. -/
theorem outF_apply (hx : ∀ c, xA m c = x) (hw : ∀ c, wqA m c = wq) (ho : ∀ c, woA m c = wo)
    (hK : ∀ (c : Dev nD) (t : Fin 2048) (h : Fin 8) (d : Fin 128), kA m c (ix3 (n0 := 2048) (n1 := 8) (n2 := 128) t h d) = K (ix3 (n0 := 32768) (n1 := 8) (n2 := 128) (keyOf c t) h d))
    (hV : ∀ (c : Dev nD) (t : Fin 2048) (h : Fin 8) (d : Fin 128), vA m c (ix3 (n0 := 2048) (n1 := 8) (n2 := 128) t h d) = V (ix3 (n0 := 32768) (n1 := 8) (n2 := 128) (keyOf c t) h d))
    (i : Fin 512) (n : Fin 1024) :
    outF m (ix2 (n0 := 512) (n1 := 1024) i n) = ∑ k : Fin 1024, quot x wq K V i k * wo (ix2 (n0 := 1024) (n1 := 1024) k n) := by
  refine (pay120_apply (finF m (rB i)) (woA m (rB i)) (rR i) n).trans ?_
  simp only [finF_apply hx hw hK hV, ho, rowAt_block]

end Cert.KernelIdeal.Body

end
-- ==== Proof.RefRead.lean ====
/- The reference's result read at an entry, over the extended reals. -/
module

public import proofs.«01_k».proof.Proof.Output
public import proofs.«01_k».proof.Proof.Gen.ReferenceIdeal.Run
@[expose] public section

noncomputable section

namespace Cert.ReferenceIdeal.Read

open Cert.ReferenceIdeal Cert.ReferenceIdeal.Gen
open Cert.KernelIdeal.Body (proj colAt cH cC Whole)

open Idealize.ShloMosaic

variable (x : FVec Ideal S512x1024 .f32) (wq wo : FVec Ideal S1024x1024 .f32) (K V : FVec Ideal S32768x8x128 .f32)

/-- The reference's scores. -/
def scores : FVec Ideal S8x512x32768 .f32 :=
  mulf (Host.dotGeneral dot_S512x8x128_S32768x8x128_S8x512x32768_2_2_0_0_1_1 none (shapeCast _ (Host.dotGeneral dot_S512x1024_S1024x1024_S512x1024_1_0_0_1_n_n none x wq) shapeCasts_S512x1024_S512x8x128) K)
    (broadcastInDim S8x512x32768 ![] bcast_S_S8x512x32768 (constant S_ .f32 0x3DB504F3#32))

/-- The powers, from the scores. -/
def powers (s : FVec Ideal S8x512x32768 .f32) : FVec Ideal S8x512x32768 .f32 :=
  Host.exp (subf s (broadcastInDim S8x512x32768 ![0, 1, 2] bcast_S8x512x1_S8x512x32768_0_1_2
    (broadcastInDim S8x512x1 ![0, 1] bcast_S8x512_S8x512x1_0_1 (Host.reduce FloatOps.maximumf s (constant S_ .f32 0xFF800000#32) reducesTo_S8x512x32768_S8x512_d2 h_S_))))

/-- The quotients, from the powers. -/
def quots (p : FVec Ideal S8x512x32768 .f32) : FVec Ideal S512x8x128 .f32 :=
  Host.divf (transpose S512x8x128 [2, 0, 1] (Host.dotGeneral dot_S32768x8x128_S8x512x32768_S8x128x512_0_2_2_1_1_0 none V p) transposes_S8x128x512_S512x8x128_2_0_1)
    (broadcastInDim S512x8x128 ![0, 1, 2] bcast_S512x8x1_S512x8x128_0_1_2 (transpose S512x8x1 [1, 0, 2]
      (broadcastInDim S8x512x1 ![0, 1] bcast_S8x512_S8x512x1_0_1 (Host.reduceAdd p (constant S_ .f32 0x00000000#32) reducesTo_S8x512x32768_S8x512_d2 h_S_)) transposes_S8x512x1_S512x8x1_1_0_2))

/-- The result, from the quotients. -/
def result (q : FVec Ideal S512x8x128 .f32) : FVec Ideal S512x1024 .f32 :=
  Host.dotGeneral dot_S512x1024_S1024x1024_S512x1024_1_0_0_1_n_n none (shapeCast _ q shapeCasts_S512x8x128_S512x1024) wo

/-- The score of key `J` for row `i` of head `h`. -/
def score (h : Fin 8) (i : Fin 512) (J : Fin 32768) : EReal :=
  (∑ d : Fin 128, proj x wq i (colAt h d) * K (ix3 (n0 := 32768) (n1 := 8) (n2 := 128) J h d)) * Ideal.ofBits .f32 0x3DB504F3#32

theorem heads_apply (y : FVec Ideal S512x1024 .f32) (i : Fin 512) (h : Fin 8) (d : Fin 128) :
    shapeCast S512x8x128 y shapeCasts_S512x1024_S512x8x128 (ix3 (n0 := 512) (n1 := 8) (n2 := 128) i h d) = y (ix2 (n0 := 512) (n1 := 1024) i (colAt h d)) :=
  congrArg y (Shape.reshapeEquiv_eq_of_vals _ _ _ _ _ (rowMajor_val2 _ 1024 rfl) (rowMajor_val3 _ 1024 128 rfl rfl)
    (by show i.val * 1024 + (128 * h.val + d.val) = i.val * 1024 + h.val * 128 + d.val; omega))

theorem cols_apply (q : FVec Ideal S512x8x128 .f32) (i : Fin 512) (k : Fin 1024) :
    shapeCast S512x1024 q shapeCasts_S512x8x128_S512x1024 (ix2 (n0 := 512) (n1 := 1024) i k) = q (ix3 (n0 := 512) (n1 := 8) (n2 := 128) i (cH k) (cC k)) :=
  congrArg q (Shape.reshapeEquiv_eq_of_vals _ _ _ _ _ (rowMajor_val3 _ 1024 128 rfl rfl) (rowMajor_val2 _ 1024 rfl)
    (by show i.val * 1024 + k.val / 128 * 128 + k.val % 128 = i.val * 1024 + k.val; omega))

theorem proj_apply (i : Fin 512) (n : Fin 1024) :
    Host.dotGeneral (F := Ideal) dot_S512x1024_S1024x1024_S512x1024_1_0_0_1_n_n none x wq (ix2 (n0 := 512) (n1 := 1024) i n) = proj x wq i n := by
  pointwise
  rfl

theorem scores_apply (h : Fin 8) (i : Fin 512) (J : Fin 32768) :
    scores x wq K (ix3 (n0 := 8) (n1 := 512) (n2 := 32768) h i J) = score x wq K h i J := by
  unfold scores score
  generalize e : (shapeCast S512x8x128 (Host.dotGeneral dot_S512x1024_S1024x1024_S512x1024_1_0_0_1_n_n none x wq) shapeCasts_S512x1024_S512x8x128 : FVec Ideal S512x8x128 .f32) = q
  have eq : ∀ d, q (ix3 (n0 := 512) (n1 := 8) (n2 := 128) i h d) = proj x wq i (colAt h d) := fun d => by
    rw [← e, heads_apply, proj_apply]
  simp only [← eq]
  pointwise

theorem powers_apply (s : FVec Ideal S8x512x32768 .f32) (h : Fin 8) (i : Fin 512) (J : Fin 32768) :
    powers s (ix3 (n0 := 8) (n1 := 512) (n2 := 32768) h i J)
      = Ideal.exp (s (ix3 (n0 := 8) (n1 := 512) (n2 := 32768) h i J)
          - Finset.univ.fold max ⊥ fun J' : Fin 32768 => s (ix3 (n0 := 8) (n1 := 512) (n2 := 32768) h i J')) := by
  have b : Ideal.ofBits .f32 0xFF800000#32 = ⊥ := by simp [Ideal.ofBits, Ideal.ieee]
  pointwise [powers]
  rw [b]

theorem quots_apply (p : FVec Ideal S8x512x32768 .f32) (i : Fin 512) (h : Fin 8) (d : Fin 128) :
    quots V p (ix3 (n0 := 512) (n1 := 8) (n2 := 128) i h d)
      = Ideal.div (∑ J : Fin 32768, V (ix3 (n0 := 32768) (n1 := 8) (n2 := 128) J h d) * p (ix3 (n0 := 8) (n1 := 512) (n2 := 32768) h i J))
          (∑ J : Fin 32768, p (ix3 (n0 := 8) (n1 := 512) (n2 := 32768) h i J)) := by
  pointwise [quots]

theorem result_apply (q : FVec Ideal S512x8x128 .f32) (i : Fin 512) (n : Fin 1024) :
    result wo q (ix2 (n0 := 512) (n1 := 1024) i n)
      = ∑ k : Fin 1024, q (ix3 (n0 := 512) (n1 := 8) (n2 := 128) i (cH k) (cC k)) * wo (ix2 (n0 := 1024) (n1 := 1024) k n) := by
  simp only [← cols_apply]
  unfold result
  generalize shapeCast S512x1024 q shapeCasts_S512x8x128_S512x1024 = y
  pointwise

/-- The reference's result at an entry. -/
theorem apply (i : Fin 512) (n : Fin 1024) :
    result wo (quots V (powers (scores x wq K))) (ix2 (n0 := 512) (n1 := 1024) i n)
      = ∑ k : Fin 1024, Ideal.div
          (∑ J : Fin 32768, V (ix3 (n0 := 32768) (n1 := 8) (n2 := 128) J (cH k) (cC k)) * Ideal.exp (score x wq K (cH k) i J - Finset.univ.fold max ⊥ fun J' : Fin 32768 => score x wq K (cH k) i J'))
          (∑ J : Fin 32768, Ideal.exp (score x wq K (cH k) i J - Finset.univ.fold max ⊥ fun J' : Fin 32768 => score x wq K (cH k) i J'))
          * wo (ix2 (n0 := 1024) (n1 := 1024) k n) := by
  simp only [result_apply, quots_apply, powers_apply, scores_apply]

end Cert.ReferenceIdeal.Read

end
-- ==== Proof.Softmax.lean ====
/- Weighted means over the extended reals: a mean whose weights are positive reals does not change when every weight is
   multiplied by one positive real, so the shift by a row's maximum drops out of a softmax. -/
module

public import Idealize.ShloMosaic.Lib.Pointwise

@[expose] public section

noncomputable section

namespace Cert.Attention

open Idealize.ShloMosaic

variable {ι : Type} [Fintype ι]

/-- A sum of reals, as an extended real. -/
theorem coe_sum (f : ι → ℝ) : ∑ j, (f j : EReal) = ((∑ j, f j : ℝ) : EReal) := by
  classical
  refine Finset.induction_on (Finset.univ : Finset ι) ?_ ?_
  · simp
  · intro a s ha ih
    rw [Finset.sum_insert ha, Finset.sum_insert ha, ih, EReal.coe_add]

/-- A nonnegative real distributes over any sum of extended reals. -/
theorem mul_sum_real {a : ℝ} (ha : 0 ≤ a) (f : ι → EReal) : (a : EReal) * ∑ j, f j = ∑ j, (a : EReal) * f j := by
  classical
  refine Finset.induction_on (Finset.univ : Finset ι) ?_ ?_
  · simp
  · intro i s hi ih
    rw [Finset.sum_insert hi, Finset.sum_insert hi, ← ih]
    exact EReal.left_distrib_of_nonneg_of_ne_top (EReal.coe_nonneg.mpr ha) (EReal.coe_ne_top a) _ _

/-- The mean of `v` with weights `e`. -/
def mean (e : ι → ℝ) (v : ι → EReal) : EReal := Ideal.div (∑ j, (e j : EReal) * v j) (∑ j, (e j : EReal))

/-- One positive factor of all weights cancels. -/
theorem mean_scale [Nonempty ι] {a : ℝ} (ha : 0 < a) {e : ι → ℝ} (he : ∀ j, 0 < e j) (v : ι → EReal) :
    mean (fun j => a * e j) v = mean e v := by
  have hs : 0 < ∑ j, e j := Finset.sum_pos (fun j _ => he j) Finset.univ_nonempty
  have hn : ∑ j, ((a * e j : ℝ) : EReal) * v j = (a : EReal) * ∑ j, (e j : EReal) * v j := by
    rw [mul_sum_real ha.le]
    exact Finset.sum_congr rfl fun j _ => by rw [EReal.coe_mul, mul_assoc]
  unfold mean
  rw [hn, coe_sum, coe_sum, ← Finset.mul_sum]
  unfold Ideal.div
  rw [if_neg (by exact_mod_cast (mul_pos ha hs).ne'), if_neg (by exact_mod_cast hs.ne'), ← EReal.coe_inv, ← EReal.coe_inv,
    mul_comm (a : EReal), mul_assoc, ← EReal.coe_mul]
  congr 2
  field_simp

/-- The greatest of finitely many reals is one of them. -/
theorem exists_max [Nonempty ι] (s : ι → ℝ) : ∃ m : ℝ, Finset.univ.fold max (⊥ : EReal) (fun j => (s j : EReal)) = m := by
  obtain ⟨i, -, hi⟩ := Finset.exists_mem_eq_sup Finset.univ Finset.univ_nonempty (fun j => (s j : EReal))
  exact ⟨s i, hi⟩

/-- A softmax shifted by the row's maximum, as the mean with the unshifted weights. -/
theorem softmax_mean [Nonempty ι] (s : ι → ℝ) (v : ι → EReal) :
    Ideal.div (∑ j, v j * Ideal.exp ((s j : EReal) - Finset.univ.fold max (⊥ : EReal) (fun j => (s j : EReal))))
        (∑ j, Ideal.exp ((s j : EReal) - Finset.univ.fold max (⊥ : EReal) (fun j => (s j : EReal))))
      = mean (fun j => Real.exp (s j)) v := by
  obtain ⟨m, hm⟩ := exists_max s
  rw [hm]
  have he : ∀ j, Ideal.exp ((s j : EReal) - (m : EReal)) = ((Real.exp (-m) * Real.exp (s j) : ℝ) : EReal) := fun j => by
    rw [← EReal.coe_sub]
    show ((Real.exp (s j - m) : ℝ) : EReal) = _
    rw [← Real.exp_add]
    congr 2; ring
  simp only [he]
  rw [← mean_scale (Real.exp_pos (-m)) (fun j => Real.exp_pos (s j)) v]
  unfold mean
  congr 1
  exact Finset.sum_congr rfl fun j _ => mul_comm _ _

/-- Powers of two of the scores times the binary logarithm of `e` are powers of `e` of the scores. -/
theorem exp2_scaled (c s : ℝ) : Ideal.exp2 ((c * (Real.log 2)⁻¹ * s : ℝ) : EReal) = ((Real.exp (c * s) : ℝ) : EReal) := by
  show ((Real.rpow 2 _ : ℝ) : EReal) = _
  have h2 : Real.log 2 ≠ 0 := (Real.log_pos (by norm_num)).ne'
  congr 1
  show (2 : ℝ) ^ (c * (Real.log 2)⁻¹ * s) = _
  rw [Real.rpow_def_of_pos (by norm_num)]
  congr 1
  field_simp

end Cert.Attention

end
-- ==== Proof.Equation.lean ====
/- The two results agree at every entry when the inputs, the projection weights and the keys are reals. -/
module

public import proofs.«01_k».proof.Proof.RefRead
public import proofs.«01_k».proof.Proof.Softmax
@[expose] public section

noncomputable section

namespace Cert.Attention

open Cert.KernelIdeal.Body (proj colAt cH cC Whole weight quot scaleK)
open Cert.ReferenceIdeal.Read (score)

open Idealize.ShloMosaic

variable {x : (⟨2, ![512, 1024]⟩ : Shape).Idx → EReal} {wq : (⟨2, ![1024, 1024]⟩ : Shape).Idx → EReal} {K : Whole.Idx → EReal}
variable {xr : (⟨2, ![512, 1024]⟩ : Shape).Idx → ℝ} {wr : (⟨2, ![1024, 1024]⟩ : Shape).Idx → ℝ} {Kr : Whole.Idx → ℝ}

theorem scale_bits : Ideal.ofBits .f32 0x3DB504F3#32 = ((11863283 / 134217728 : ℝ) : EReal) := by
  simp [Ideal.ofBits, Ideal.ieee]
  rw [← EReal.coe_mul]
  norm_num

/-- The projected queries over the reals. -/
def projR (xr : (⟨2, ![512, 1024]⟩ : Shape).Idx → ℝ) (wr : (⟨2, ![1024, 1024]⟩ : Shape).Idx → ℝ) (i : Fin 512) (n : Fin 1024) : ℝ :=
  ∑ k : Fin 1024, xr (ix2 (n0 := 512) (n1 := 1024) i k) * wr (ix2 (n0 := 1024) (n1 := 1024) k n)

/-- The unscaled scores over the reals. -/
def scoreR (xr : (⟨2, ![512, 1024]⟩ : Shape).Idx → ℝ) (wr : (⟨2, ![1024, 1024]⟩ : Shape).Idx → ℝ) (Kr : Whole.Idx → ℝ) (h : Fin 8) (i : Fin 512) (J : Fin 32768) : ℝ :=
  ∑ d : Fin 128, projR xr wr i (colAt h d) * Kr (ix3 (n0 := 32768) (n1 := 8) (n2 := 128) J h d)

theorem proj_real (hx : ∀ j, x j = (xr j : EReal)) (hw : ∀ j, wq j = (wr j : EReal)) (i : Fin 512) (n : Fin 1024) :
    proj x wq i n = (projR xr wr i n : EReal) := by
  unfold proj projR
  rw [← coe_sum]
  exact Finset.sum_congr rfl fun k _ => by rw [hx, hw, EReal.coe_mul]

theorem score_real (hx : ∀ j, x j = (xr j : EReal)) (hw : ∀ j, wq j = (wr j : EReal)) (hK : ∀ j, K j = (Kr j : EReal)) (h : Fin 8) (i : Fin 512) (J : Fin 32768) :
    score x wq K h i J = ((11863283 / 134217728 * scoreR xr wr Kr h i J : ℝ) : EReal) := by
  have e : ∑ d : Fin 128, proj x wq i (colAt h d) * K (ix3 (n0 := 32768) (n1 := 8) (n2 := 128) J h d) = (scoreR xr wr Kr h i J : EReal) := by
    unfold scoreR
    rw [← coe_sum]
    exact Finset.sum_congr rfl fun d _ => by rw [proj_real hx hw, hK, EReal.coe_mul]
  unfold score
  rw [e, scale_bits, ← EReal.coe_mul, mul_comm]

theorem weight_real (hx : ∀ j, x j = (xr j : EReal)) (hw : ∀ j, wq j = (wr j : EReal)) (hK : ∀ j, K j = (Kr j : EReal)) (h : Fin 8) (i : Fin 512) (J : Fin 32768) :
    weight x wq K h i J = ((Real.exp (11863283 / 134217728 * scoreR xr wr Kr h i J) : ℝ) : EReal) := by
  have e : ∑ d : Fin 128, proj x wq i (colAt h d) * scaleK * K (ix3 (n0 := 32768) (n1 := 8) (n2 := 128) J h d)
      = ((11863283 / 134217728 * (Real.log 2)⁻¹ * scoreR xr wr Kr h i J : ℝ) : EReal) := by
    unfold scoreR scaleK
    rw [Finset.mul_sum, ← coe_sum]
    refine Finset.sum_congr rfl fun d _ => ?_
    rw [proj_real hx hw, hK, ← EReal.coe_mul, ← EReal.coe_mul]
    congr 1
    ring
  unfold weight
  rw [e, exp2_scaled]

/-- The kernel's quotient is the reference's. -/
theorem quot_eq (hx : ∀ j, x j = (xr j : EReal)) (hw : ∀ j, wq j = (wr j : EReal)) (hK : ∀ j, K j = (Kr j : EReal)) (V : Whole.Idx → EReal) (i : Fin 512) (k : Fin 1024) :
    quot x wq K V i k = Ideal.div
      (∑ J : Fin 32768, V (ix3 (n0 := 32768) (n1 := 8) (n2 := 128) J (cH k) (cC k)) * Ideal.exp (score x wq K (cH k) i J - Finset.univ.fold max ⊥ fun J' : Fin 32768 => score x wq K (cH k) i J'))
      (∑ J : Fin 32768, Ideal.exp (score x wq K (cH k) i J - Finset.univ.fold max ⊥ fun J' : Fin 32768 => score x wq K (cH k) i J')) := by
  simp only [score_real hx hw hK]
  rw [softmax_mean (fun J : Fin 32768 => 11863283 / 134217728 * scoreR xr wr Kr (cH k) i J) fun J => V (ix3 (n0 := 32768) (n1 := 8) (n2 := 128) J (cH k) (cC k))]
  unfold quot mean
  simp only [weight_real hx hw hK]

end Cert.Attention

end
-- ==== Proof.Finite.lean ====
/- What the precondition gives: every input, every projection weight and every key is a real. -/
module

public import proofs.«01_k».proof.Proof.Gen.Pre_finite_KernelIdeal
public import Idealize.ShloMosaic.Lib.ReduceAll
public import Idealize.ShloMosaic.Lib.Pointwise
@[expose] public section

noncomputable section

namespace Cert.Pre_finite_KernelIdeal

open Cert.Pre_finite_KernelIdeal.Gen
open Idealize.ShloMosaic

/-- An extended real below infinity in absolute value is a real. -/
theorem real_of_lt (a : EReal) (h : FloatOps.cmpf (F := Ideal) (φ := .f32) .olt (FloatOps.hostAbsf (F := Ideal) (φ := .f32) a) (Ideal.ofBits .f32 0x7F800000#32) = 1#1) : ∃ r : ℝ, a = (r : EReal) := by
  have t : Ideal.ofBits .f32 0x7F800000#32 = ⊤ := by simp [Ideal.ofBits, Ideal.ieee]
  rw [t] at h
  have l : max a (-a) < ⊤ := by
    by_contra n
    have z : Ideal.cmp .olt (max a (-a)) ⊤ = 0#1 := by simp [Ideal.cmp, n]
    exact absurd (z.symm.trans h) (by decide)
  induction a with
  | bot => simp at l
  | top => simp at l
  | coe r => exact ⟨r, rfl⟩

theorem reals (a0 : FVec Ideal S512x1024 .f32) (a1 : FVec Ideal S1024x1024 .f32) (a2 a3 : FVec Ideal S2048x8x128 .f32) (a4 : FVec Ideal S1024x1024 .f32)
    (h : fn a0 a1 a2 a3 a4 = fun _ => 1#1) : (∀ j, ∃ r : ℝ, a0 j = (r : EReal)) ∧ (∀ j, ∃ r : ℝ, a1 j = (r : EReal)) ∧ ∀ j, ∃ r : ℝ, a2 j = (r : EReal) := by
  haveI : Subsingleton S_.Idx := ⟨fun a b => funext fun k => k.elim0⟩
  have e := congrFun h (fun k => k.elim0)
  obtain ⟨e01, e2⟩ := IntOp.andi_eq_one.1 e
  obtain ⟨e0, e1⟩ := IntOp.andi_eq_one.1 e01
  exact ⟨fun j => real_of_lt _ (Host.reduce_andi_all _ _ _ _ _ e0 j), fun j => real_of_lt _ (Host.reduce_andi_all _ _ _ _ _ e1 j), fun j => real_of_lt _ (Host.reduce_andi_all _ _ _ _ _ e2 j)⟩

end Cert.Pre_finite_KernelIdeal

end
-- ==== Proof.Values.lean ====
/- The value claim: both programs run, and every device of the kernel ends with the reference's result. -/
module

public import proofs.«01_k».proof.Defs
public import proofs.«01_k».proof.Proof.Result
public import proofs.«01_k».proof.Proof.Equation
public import proofs.«01_k».proof.Proof.Finite
@[expose] public section

noncomputable section

namespace Cert.Attention

open Idealize.ShloMosaic Idealize.SL.Sem
open Cert.KernelIdeal.Body (Whole keyOf)

/-- Device `c`'s block of an array cut along its rows, at an entry. -/
theorem block_apply (A : Whole.Idx → EReal) (c : Fin 16) (t : Fin 2048) (h : Fin 8) (d : Fin 128) :
    Layout.block ⟨3, ![2048, 8, 128]⟩ ⟨3, ![32768, 8, 128]⟩ 0 16 c A (by decide) (ix3 (n0 := 2048) (n1 := 8) (n2 := 128) t h d)
      = A (ix3 (n0 := 32768) (n1 := 8) (n2 := 128) (keyOf c t) h d) := by
  refine congrArg A (funext fun a => Fin.ext ?_)
  match a with
  | ⟨0, _⟩ => rfl
  | ⟨1, _⟩ => rfl
  | ⟨2, _⟩ => rfl

/-- Every key is some device's. -/
theorem key_split (A : Whole.Idx → EReal) (p : EReal → Prop) (h : ∀ (c : Fin 16) (t : Fin 2048) (h : Fin 8) (d : Fin 128), p (A (ix3 (n0 := 32768) (n1 := 8) (n2 := 128) (keyOf c t) h d))) (j : Whole.Idx) : p (A j) := by
  have b : (j 0).val < 32768 := (j 0).isLt
  have e : ix3 (n0 := 32768) (n1 := 8) (n2 := 128) (keyOf ⟨(j 0).val / 2048, by omega⟩ ⟨(j 0).val % 2048, by omega⟩) (j 1) (j 2) = j := by
    funext a
    match a with
    | ⟨0, _⟩ => exact Fin.ext (by show (j 0).val / 2048 * 2048 + (j 0).val % 2048 = (j 0).val; omega)
    | ⟨1, _⟩ => rfl
    | ⟨2, _⟩ => rfl
  rw [← e]
  exact h _ _ _ _

/-- The reference's result is the kernel's. -/
theorem result_eq {m : (ℓ : Loc Cert.KernelIdeal.nD Cert.KernelIdeal.τ Cert.KernelIdeal.sig) → Buf (Elt Ideal) ℓ}
    {x : FVec Ideal Cert.ReferenceIdeal.S512x1024 .f32} {wq wo : FVec Ideal Cert.ReferenceIdeal.S1024x1024 .f32} {K V : FVec Ideal Cert.ReferenceIdeal.S32768x8x128 .f32}
    {xr : (⟨2, ![512, 1024]⟩ : Shape).Idx → ℝ} {wr : (⟨2, ![1024, 1024]⟩ : Shape).Idx → ℝ} {Kr : Whole.Idx → ℝ}
    (kx : ∀ c, Cert.KernelIdeal.Body.xA m c = x) (kw : ∀ c, Cert.KernelIdeal.Body.wqA m c = wq) (ko : ∀ c, Cert.KernelIdeal.Body.woA m c = wo)
    (kk : ∀ (c : Dev Cert.KernelIdeal.nD) (t : Fin 2048) (h : Fin 8) (d : Fin 128), Cert.KernelIdeal.Body.kA m c (ix3 (n0 := 2048) (n1 := 8) (n2 := 128) t h d) = K (ix3 (n0 := 32768) (n1 := 8) (n2 := 128) (keyOf c t) h d))
    (kv : ∀ (c : Dev Cert.KernelIdeal.nD) (t : Fin 2048) (h : Fin 8) (d : Fin 128), Cert.KernelIdeal.Body.vA m c (ix3 (n0 := 2048) (n1 := 8) (n2 := 128) t h d) = V (ix3 (n0 := 32768) (n1 := 8) (n2 := 128) (keyOf c t) h d))
    (hx : ∀ j, x j = (xr j : EReal)) (hw : ∀ j, wq j = (wr j : EReal)) (hK : ∀ j, K j = (Kr j : EReal)) :
    Cert.ReferenceIdeal.Read.result wo (Cert.ReferenceIdeal.Read.quots V (Cert.ReferenceIdeal.Read.powers (Cert.ReferenceIdeal.Read.scores x wq K))) = Cert.KernelIdeal.Body.outF (F := Ideal) m := by
  funext j
  rw [eq_ix2 (n0 := 512) (n1 := 1024) j]
  refine (Cert.ReferenceIdeal.Read.apply x wq wo K V (j 0) (j 1)).trans ?_
  refine Eq.trans ?_ (Cert.KernelIdeal.Body.outF_apply kx kw ko kk kv (j 0) (j 1)).symm
  exact Finset.sum_congr rfl fun k _ => congrArg (· * wo (ix2 (n0 := 1024) (n1 := 1024) k (j 1))) (quot_eq hx hw hK V (j 0) k).symm

theorem values : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' pre agree
  refine ⟨Cert.KernelIdeal.Body.outF (F := Ideal) m, (θ_run _ _ _).mono (fun r h => h.1) (Cert.KernelIdeal.Body.run_values (F := Ideal) m g), (θ_run _ _ _).mono (fun r h => ⟨(h 0).1.trans ?_, (h 0).2⟩) (Cert.ReferenceIdeal.Value.run (F := Ideal) m' g')⟩
  have f := fun c => Cert.Pre_finite_KernelIdeal.reals _ _ _ _ _ (pre c)
  have kx : ∀ c, Cert.KernelIdeal.Body.xA m c = m' (((0 : Dev Cert.ReferenceIdeal.nD).tc : Thread Cert.ReferenceIdeal.nD Cert.ReferenceIdeal.τ).loc Cert.ReferenceIdeal.main_arg0) := fun c => (Cert.KernelIdeal.Body.xA_eq m c).trans (agree c).1
  have kw : ∀ c, Cert.KernelIdeal.Body.wqA m c = m' (((0 : Dev Cert.ReferenceIdeal.nD).tc : Thread Cert.ReferenceIdeal.nD Cert.ReferenceIdeal.τ).loc Cert.ReferenceIdeal.main_arg1) := fun c => (Cert.KernelIdeal.Body.wqA_eq m c).trans (agree c).2.1
  have ko : ∀ c, Cert.KernelIdeal.Body.woA m c = m' (((0 : Dev Cert.ReferenceIdeal.nD).tc : Thread Cert.ReferenceIdeal.nD Cert.ReferenceIdeal.τ).loc Cert.ReferenceIdeal.main_arg4) := fun c => (Cert.KernelIdeal.Body.woA_eq m c).trans (agree c).2.2.2.2
  have kk : ∀ c (t : Fin 2048) (h : Fin 8) (d : Fin 128), Cert.KernelIdeal.Body.kA m c (ix3 (n0 := 2048) (n1 := 8) (n2 := 128) t h d)
      = (m' (((0 : Dev Cert.ReferenceIdeal.nD).tc : Thread Cert.ReferenceIdeal.nD Cert.ReferenceIdeal.τ).loc Cert.ReferenceIdeal.main_arg2) : Whole.Idx → EReal) (ix3 (n0 := 32768) (n1 := 8) (n2 := 128) (keyOf c t) h d) :=
    fun c t h d => (congrFun (agree c).2.2.1 (ix3 (n0 := 2048) (n1 := 8) (n2 := 128) t h d)).trans (block_apply _ c t h d)
  have kv : ∀ c (t : Fin 2048) (h : Fin 8) (d : Fin 128), Cert.KernelIdeal.Body.vA m c (ix3 (n0 := 2048) (n1 := 8) (n2 := 128) t h d)
      = (m' (((0 : Dev Cert.ReferenceIdeal.nD).tc : Thread Cert.ReferenceIdeal.nD Cert.ReferenceIdeal.τ).loc Cert.ReferenceIdeal.main_arg3) : Whole.Idx → EReal) (ix3 (n0 := 32768) (n1 := 8) (n2 := 128) (keyOf c t) h d) :=
    fun c t h d => (congrFun (agree c).2.2.2.1 (ix3 (n0 := 2048) (n1 := 8) (n2 := 128) t h d)).trans (block_apply _ c t h d)
  have rx : ∀ j, ∃ a : ℝ, (m' (((0 : Dev Cert.ReferenceIdeal.nD).tc : Thread Cert.ReferenceIdeal.nD Cert.ReferenceIdeal.τ).loc Cert.ReferenceIdeal.main_arg0) : (⟨2, ![512, 1024]⟩ : Shape).Idx → EReal) j = (a : EReal) :=
    fun j => (congrFun (agree 0).1 j) ▸ (f 0).1 j
  have rw' : ∀ j, ∃ a : ℝ, (m' (((0 : Dev Cert.ReferenceIdeal.nD).tc : Thread Cert.ReferenceIdeal.nD Cert.ReferenceIdeal.τ).loc Cert.ReferenceIdeal.main_arg1) : (⟨2, ![1024, 1024]⟩ : Shape).Idx → EReal) j = (a : EReal) :=
    fun j => (congrFun (agree 0).2.1 j) ▸ (f 0).2.1 j
  have rk : ∀ j, ∃ a : ℝ, (m' (((0 : Dev Cert.ReferenceIdeal.nD).tc : Thread Cert.ReferenceIdeal.nD Cert.ReferenceIdeal.τ).loc Cert.ReferenceIdeal.main_arg2) : Whole.Idx → EReal) j = (a : EReal) :=
    key_split _ (fun e => ∃ a : ℝ, e = (a : EReal)) fun c t h d => (kk c t h d) ▸ (f c).2.2 (ix3 (n0 := 2048) (n1 := 8) (n2 := 128) t h d)
  choose xr hx using rx
  choose wr hw using rw'
  choose Kr hK using rk
  refine (show _ = Cert.ReferenceIdeal.Read.result _ (Cert.ReferenceIdeal.Read.quots _ (Cert.ReferenceIdeal.Read.powers (Cert.ReferenceIdeal.Read.scores _ _ _))) from rfl).trans ?_
  exact result_eq kx kw ko kk kv hx hw hK

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Result
public import proofs.«01_k».proof.Proof.Compiled.Result
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The compiled kernel runs, leaves its arguments, and ends with every semaphore at zero. -/
theorem kernel_frame : Cert.quiescent_Kernel (hKernel := Cert.Kernel.Gen.facts) := fun m g _ =>
  (θ_run _ _ _).mono (fun _ h => ⟨fun c => (h.1 c).2, h.2⟩) (Cert.Kernel.Body.run_values m g)

/-- So does the idealized kernel, -/
theorem ideal_frame : Cert.quiescent_KernelIdeal (hKernelIdeal := Cert.KernelIdeal.Gen.facts) := fun m g _ =>
  (θ_run _ _ _).mono (fun _ h => ⟨fun c => (h.1 c).2, h.2⟩) (Cert.KernelIdeal.Body.run_values m g)

/-- and the reference. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_frame, ideal_frame, fun m g _ => ideal_frame m g trivial, reference_frame, fun m g _ => reference_frame m g trivial,
  IdealRules.named_const.statement Cert.KernelIdeal.κ "scale_log2e" .f32 0x3E0293EE#32 _ rfl,
  Cert.Attention.values⟩

end Cert.Proof

end
